-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2 = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_KernelIdeal_fresh_memories [hPre_fresh_memories : Cert.Pre_fresh_memories.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_memories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_fresh_memories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_fresh_memories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_fresh_memories.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_memories [hPre_fresh_memories : Cert.Pre_fresh_memories.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_memories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_fresh_memories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_fresh_memories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_fresh_memories.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_fresh_memories [hKernelIdeal : Cert.KernelIdeal.Facts] [hPre_fresh_memories : Cert.Pre_fresh_memories.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_memories m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_fresh_memories [hReferenceIdeal : Cert.ReferenceIdeal.Facts] [hPre_fresh_memories : Cert.Pre_fresh_memories.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_memories m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_fresh_memories [hKernelIdeal : Cert.KernelIdeal.Facts] [hReferenceIdeal : Cert.ReferenceIdeal.Facts] [hPre_fresh_memories : Cert.Pre_fresh_memories.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_memories m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_fresh_memories : Cert.Pre_fresh_memories.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_fresh_memories (hKernelIdeal := hKernelIdeal) (hPre_fresh_memories := hPre_fresh_memories)
    ∧ quiescent_ReferenceIdeal (hReferenceIdeal := hReferenceIdeal)
    ∧ quiescent_ReferenceIdeal_pre_fresh_memories (hReferenceIdeal := hReferenceIdeal) (hPre_fresh_memories := hPre_fresh_memories)
    ∧ preserves_Kernel_KernelIdeal
    ∧ algebraic_KernelIdeal_ReferenceIdeal_pre_fresh_memories (hKernelIdeal := hKernelIdeal) (hReferenceIdeal := hReferenceIdeal) (hPre_fresh_memories := hPre_fresh_memories)
-- ==== Pre_fresh_memories.lean ====
abbrev S16384x128 : Shape := ⟨2, ![16384, 128]⟩
abbrev S16384 : Shape := ⟨1, ![16384]⟩
abbrev S64x128 : Shape := ⟨2, ![64, 128]⟩
abbrev S64 : Shape := ⟨1, ![64]⟩
abbrev S1000000x64 : Shape := ⟨2, ![1000000, 64]⟩
abbrev S1000x64 : Shape := ⟨2, ![1000, 64]⟩
abbrev S_ : Shape := ⟨0, ![]⟩

class Facts : Prop where
  bcast_S_S16384 : S_.BroadcastsInDim S16384 (![] : Fin 0 → Fin S16384.rank)
  bcast_S_S1000000x64 : S_.BroadcastsInDim S1000000x64 (![] : Fin 0 → Fin S1000000x64.rank)
  bcast_S_S1000x64 : S_.BroadcastsInDim S1000x64 (![] : Fin 0 → Fin S1000x64.rank)

variable [Facts]

def fn {F : FTy → Type} [FloatOps F] (main_arg0 : FVec F S16384x128 .f32) (main_arg1 : FVec F S16384x128 .f32) (main_arg2 : IVec S16384 32) (main_arg3 : IVec S16384 32) (main_arg4 : FVec F S64x128 .f32) (main_arg5 : FVec F S64 .f32) (main_arg6 : FVec F S64x128 .f32) (main_arg7 : FVec F S64 .f32) (main_arg8 : FVec F S1000000x64 .f32) (main_arg9 : FVec F S1000x64 .f32) : IVec S16384 1 × IVec S16384 1 × IVec S1000000x64 1 × IVec S1000x64 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 1000000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg3 main_v5
  let main_c_2 : IVec S_ 32 := constantI S_ 32 1000#32
  let main_v7 : IVec S16384 32 := broadcastInDim S16384 ![] bcast_S_S16384 main_c_2
  let main_v8 : IVec S16384 1 := cmpi .slt main_arg3 main_v7
  let main_v9 : IVec S16384 1 := andi main_v6 main_v8
  let main_cst : FVec F S_ .f32 := constant S_ .f32 0x00000000#32
  let main_v10 : FVec F S1000000x64 .f32 := broadcastInDim S1000000x64 ![] bcast_S_S1000000x64 main_cst
  let main_v11 : IVec S1000000x64 1 := cmpf .oeq main_arg8 main_v10
  let main_cst_3 : FVec F S_ .f32 := constant S_ .f32 0x00000000#32
  let main_v12 : FVec F S1000x64 .f32 := broadcastInDim S1000x64 ![] bcast_S_S1000x64 main_cst_3
  let main_v13 : IVec S1000x64 1 := cmpf .oeq main_arg9 main_v12
  (main_v4, main_v9, main_v11, main_v13)
-- ==== Pre_ids_in_range.lean ====
abbrev S16384x128 : Shape := ⟨2, ![16384, 128]⟩
abbrev S16384 : Shape := ⟨1, ![16384]⟩
abbrev S64x128 : Shape := ⟨2, ![64, 128]⟩
abbrev S64 : Shape := ⟨1, ![64]⟩
abbrev S1000000x64 : Shape := ⟨2, ![1000000, 64]⟩
abbrev S1000x64 : Shape := ⟨2, ![1000, 64]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x128 .f32) (main_arg1 : FVec F S16384x128 .f32) (main_arg2 : IVec S16384 32) (main_arg3 : IVec S16384 32) (main_arg4 : FVec F S64x128 .f32) (main_arg5 : FVec F S64 .f32) (main_arg6 : FVec F S64x128 .f32) (main_arg7 : FVec F S64 .f32) (main_arg8 : FVec F S1000000x64 .f32) (main_arg9 : FVec F S1000x64 .f32) : IVec S16384 1 × IVec S16384 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 1000000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg3 main_v5
  let main_c_2 : IVec S_ 32 := constantI S_ 32 1000#32
  let main_v7 : IVec S16384 32 := broadcastInDim S16384 ![] bcast_S_S16384 main_c_2
  let main_v8 : IVec S16384 1 := cmpi .slt main_arg3 main_v7
  let main_v9 : IVec S16384 1 := andi main_v6 main_v8
  (main_v4, main_v9)
-- ==== Kernel.lean ====
abbrev S16384x128 : Shape := ⟨2, ![16384, 128]⟩
abbrev S16384 : Shape := ⟨1, ![16384]⟩
abbrev S64x128 : Shape := ⟨2, ![64, 128]⟩
abbrev S64 : Shape := ⟨1, ![64]⟩
abbrev S1000000x64 : Shape := ⟨2, ![1000000, 64]⟩
abbrev S1000x64 : Shape := ⟨2, ![1000, 64]⟩
abbrev S16x1x1024 : Shape := ⟨3, ![16, 1, 1024]⟩
abbrev S1x64 : Shape := ⟨2, ![1, 64]⟩
abbrev S16384x64 : Shape := ⟨2, ![16384, 64]⟩
abbrev S1024x64 : Shape := ⟨2, ![1024, 64]⟩
abbrev S1024x128 : Shape := ⟨2, ![1024, 128]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S16384x1 : Shape := ⟨2, ![16384, 1]⟩
abbrev S16384x1x64 : Shape := ⟨3, ![16384, 1, 64]⟩
abbrev S1000000x1x64 : Shape := ⟨3, ![1000000, 1, 64]⟩
abbrev S1x1x64 : Shape := ⟨3, ![1, 1, 64]⟩
abbrev S1 : Shape := ⟨1, ![1]⟩

abbrev nBuf : Space → Nat
  | .hbm => 33
  | .vmem => 17
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S16384, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1000000x64, .f32⟩
  | .hbm, ⟨9, _⟩ => ⟨S1000x64, .f32⟩
  | .hbm, ⟨10, _⟩ => ⟨S16x1x1024, .i32⟩
  | .hbm, ⟨11, _⟩ => ⟨S1x64, .f32⟩
  | .hbm, ⟨12, _⟩ => ⟨S1x64, .f32⟩
  | .hbm, ⟨13, _⟩ => ⟨S16384x64, .f32⟩
  | .hbm, ⟨14, _⟩ => ⟨S1024x64, .f32⟩
  | .hbm, ⟨15, _⟩ => ⟨S1000x64, .f32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x64, .f32⟩
  | .hbm, ⟨28, _⟩ => ⟨S16384x1x64, .f32⟩
  | .hbm, ⟨29, _⟩ => ⟨S_, .f32⟩
  | .hbm, ⟨30, _⟩ => ⟨S1000000x1x64, .f32⟩
  | .hbm, ⟨31, _⟩ => ⟨S1000000x1x64, .f32⟩
  | .hbm, ⟨32, _⟩ => ⟨S1000000x64, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1x1024, .i32⟩
  | .local _ .vmem, ⟨5, _⟩ => ⟨S1x1x1024, .i32⟩
  | .local _ .vmem, ⟨6, _⟩ => ⟨S64x128, .f32⟩
  | .local _ .vmem, ⟨7, _⟩ => ⟨S1x64, .f32⟩
  | .local _ .vmem, ⟨8, _⟩ => ⟨S64x128, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .smem, ⟨0, _⟩ => ⟨S16384, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_call1_v0 : Ref sig .tc := ⟨.hbm, 16, rfl⟩
abbrev main_call1_v1_0 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16384], ![false]⟩

abbrev pre1 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k1_cond1 (i : grid1.Coords) (v3 : BitVec 32) (v6 : BitVec 32) : BitVec 1 :=
  let arg0 : BitVec 32 := BitVec.ofNat 32 (i 0).val
  let c0_i32_0 : BitVec 32 := 0#32
  let v4 : BitVec 1 := Scalar.cmpi .eq arg0 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k1_cond2 (i : grid1.Coords) (v3 : BitVec 32) (v6 : BitVec 32) : BitVec 1 :=
  let arg0 : BitVec 32 := BitVec.ofNat 32 (i 0).val
  let c0_i32_0 : BitVec 32 := 0#32
  let v4 : BitVec 1 := Scalar.cmpi .eq arg0 c0_i32_0
  let v7 : BitVec 1 := Scalar.cmpi .ne v6 v3
  let v8 : BitVec 1 := Scalar.ori v4 v7
  let v_true : BitVec 1 := 1#1
  let v11 : BitVec 1 := Scalar.xori v8 v_true
  let v12 : BitVec 32 := Scalar.extui v11
  let c0_i32_2 : BitVec 32 := 0#32
  let v13 : BitVec 1 := Scalar.cmpi .ne v12 c0_i32_2
  v13

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S16384x128 : Shape := ⟨2, ![16384, 128]⟩
abbrev S16384 : Shape := ⟨1, ![16384]⟩
abbrev S64x128 : Shape := ⟨2, ![64, 128]⟩
abbrev S64 : Shape := ⟨1, ![64]⟩
abbrev S1000000x64 : Shape := ⟨2, ![1000000, 64]⟩
abbrev S1000x64 : Shape := ⟨2, ![1000, 64]⟩
abbrev S128x64 : Shape := ⟨2, ![128, 64]⟩
abbrev S16384x64 : Shape := ⟨2, ![16384, 64]⟩
abbrev S1x64 : Shape := ⟨2, ![1, 64]⟩
abbrev S_ : Shape := ⟨0, ![]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S16384, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S1000000x64, .f32⟩
  | .hbm, ⟨9, _⟩ => ⟨S1000x64, .f32⟩
  | .hbm, ⟨10, _⟩ => ⟨S128x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S1000000x64, .f32⟩
  | .hbm, ⟨27, _⟩ => ⟨S128x64, .f32⟩
  | .hbm, ⟨28, _⟩ => ⟨S16384x64, .f32⟩
  | .hbm, ⟨29, _⟩ => ⟨S1x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1000x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Pre.lean ====
/-
  The two preconditions read at an element: every id is a row of its memory, and a fresh memory is zero everywhere.
-/
module

public import proofs.«01_k».proof.Pre_ids_in_range
public import proofs.«01_k».proof.Pre_fresh_memories
public import Idealize.ShloMosaic.Lib.WordCmp
public import Idealize.ShloMosaic.Lib.IdealHost
public import Idealize.ShloMosaic.Lib.Tactic

@[expose] public section

set_option maxRecDepth 16384

noncomputable section

namespace Cert.Pre

open Idealize.ShloMosaic

/-- The broadcast that the index precondition takes exists. -/
instance idsFacts : Cert.Pre_ids_in_range.Facts where
  bcast_S_S16384 := by decide

/-- The broadcasts that the precondition on ids and memories takes exist. -/
instance freshFacts : Cert.Pre_fresh_memories.Facts where
  bcast_S_S16384 := by decide
  bcast_S_S1000000x64 := by decide
  bcast_S_S1000x64 := by decide

/-- A word that compares at least zero and below `n`, both signed, holds a natural number below `n`. -/
theorem word_range (x n : BitVec 32) (hn : n.toNat < 2 ^ 31)
    (h : IntOp.andi (IntOp.cmpi .sge x 0#32) (IntOp.cmpi .slt x n) = 1#1) : x.toNat < n.toNat := by
  have h1 : IntOp.cmpi .sge x 0#32 = 1#1 := by
    revert h; generalize IntOp.cmpi .sge x 0#32 = p; generalize IntOp.cmpi .slt x n = q; revert p q; decide
  have h2 : IntOp.cmpi .slt x n = 1#1 := by
    revert h; generalize IntOp.cmpi .sge x 0#32 = p; generalize IntOp.cmpi .slt x n = q; revert p q; decide
  have h1' : (0#32).sle x = true := by
    change BitVec.ofBool ((0#32).sle x) = 1#1 at h1
    revert h1; generalize (0#32).sle x = b; revert b; decide
  have h2' : x.slt n = true := by
    change BitVec.ofBool (x.slt n) = 1#1 at h2
    revert h2; generalize x.slt n = b; revert b; decide
  simp only [BitVec.sle, BitVec.slt, decide_eq_true_eq] at h1' h2'
  have hn' : n.toInt = n.toNat := BitVec.toInt_eq_toNat_of_lt (by omega)
  have h0 : (0#32).toInt = 0 := rfl
  rw [h0] at h1'
  rw [hn'] at h2'
  have hx := BitVec.toInt_eq_toNat_cond x
  split at hx <;> omega

section
variable {F : FTy → Type} [FloatOps F]

section
open Cert.Pre_ids_in_range
/-- Under the index precondition every node id is a row of the entity memory. -/
theorem ids_node (a0 a1 : FVec F S16384x128 .f32) (a2 a3 : IVec S16384 32) (a4 : FVec F S64x128 .f32) (a5 : FVec F S64 .f32)
    (a6 : FVec F S64x128 .f32) (a7 : FVec F S64 .f32) (a8 : FVec F S1000000x64 .f32) (a9 : FVec F S1000x64 .f32)
    (h : (fn a0 a1 a2 a3 a4 a5 a6 a7 a8 a9).1 = fun _ => 1#1) (j : S16384.Idx) : (a2 j).toNat < 1000000 :=
  word_range (a2 j) 1000000#32 (by decide) (congrFun h j)
end

section
open Cert.Pre_fresh_memories
variable (a0 a1 : FVec F S16384x128 .f32) (a2 a3 : IVec S16384 32) (a4 : FVec F S64x128 .f32) (a5 : FVec F S64 .f32)
    (a6 : FVec F S64x128 .f32) (a7 : FVec F S64 .f32) (a8 : FVec F S1000000x64 .f32) (a9 : FVec F S1000x64 .f32)
/-- The same of the second precondition. -/
theorem fresh_node (h : (fn a0 a1 a2 a3 a4 a5 a6 a7 a8 a9).1 = fun _ => 1#1) (j : S16384.Idx) : (a2 j).toNat < 1000000 :=
  word_range (a2 j) 1000000#32 (by decide) (congrFun h j)
/-- Every relation id is a row of the relation memory. -/
theorem fresh_rel (h : (fn a0 a1 a2 a3 a4 a5 a6 a7 a8 a9).2.1 = fun _ => 1#1) (j : S16384.Idx) : (a3 j).toNat < 1000 :=
  word_range (a3 j) 1000#32 (by decide) (congrFun h j)
end
end

section
open Cert.Pre_fresh_memories
variable (a0 a1 : FVec Ideal S16384x128 .f32) (a2 a3 : IVec S16384 32) (a4 : FVec Ideal S64x128 .f32) (a5 : FVec Ideal S64 .f32)
    (a6 : FVec Ideal S64x128 .f32) (a7 : FVec Ideal S64 .f32) (a8 : FVec Ideal S1000000x64 .f32) (a9 : FVec Ideal S1000x64 .f32)

/-- An extended real that compares equal to the zero word is zero. -/
theorem eq_zero_of_cmp (x : Ideal .f32) (h : FloatOps.cmpf .oeq x (FloatOps.ofBits (F := Ideal) .f32 0x00000000#32) = 1#1) : x = (0 : EReal) := by
  change BitVec.ofBool (decide ((x : EReal) = Ideal.ofBits .f32 0x00000000#32)) = 1#1 at h
  rw [Ideal.ofBits_zero_f32] at h
  by_contra hx
  rw [decide_eq_false hx] at h
  exact absurd h (by decide)

/-- The entity memory is zero at the start. -/
theorem fresh_entity (h : (fn a0 a1 a2 a3 a4 a5 a6 a7 a8 a9).2.2.1 = fun _ => 1#1) (j : S1000000x64.Idx) : a8 j = (0 : EReal) :=
  eq_zero_of_cmp (a8 j) (congrFun h j)
/-- The relation memory is zero at the start. -/
theorem fresh_relation (h : (fn a0 a1 a2 a3 a4 a5 a6 a7 a8 a9).2.2.2 = fun _ => 1#1) (j : S1000x64.Idx) : a9 j = (0 : EReal) :=
  eq_zero_of_cmp (a9 j) (congrFun h j)
end

end Cert.Pre

end
-- ==== Proof.Ref.lean ====
/-
  The reference's run: its two results as one composed term each, the arguments unchanged.
-/
module

public import proofs.«01_k».proof.Proof.Gen.ReferenceIdeal
public import Idealize.ShloMosaic.Adequacy
public import Idealize.ShloMosaic.Init
public import Idealize.ShloMosaic.Lib.Claim
public import Idealize.ShloMosaic.Lib.Tactic
public import Idealize.ShloMosaic.PureOps.Ideal

@[expose] public section

set_option maxRecDepth 16384
set_option synthInstance.maxSize 4096

noncomputable section

namespace Cert.ReferenceIdeal.Value

open Cert.ReferenceIdeal Cert.ReferenceIdeal.Facts₀
open Idealize.ShloMosaic Idealize.ShloMosaic.TcCoe
open Idealize.SL.Sem

/-- The updates: the embeddings times the transposed weights, the bias added, divided by one. -/
def updates (x : FVec Ideal S16384x128 .f32) (w : FVec Ideal S64x128 .f32) (b : FVec Ideal S64 .f32) : FVec Ideal S16384x64 .f32 :=
  Host.divf
    (addf (Host.dotGeneral dot_S16384x128_S128x64_S16384x64_1_0_0_1_n_n none x (transpose S128x64 [1, 0] w transposes_S64x128_S128x64_1_0))
      (broadcastInDim S16384x64 ![0, 1] bcast_S1x64_S16384x64_0_1 (broadcastInDim S1x64 ![1] bcast_S64_S1x64_1 b)))
    (broadcastInDim S16384x64 ![] bcast_S_S16384x64 (constant S_ .f32 0x3F800000#32))

/-- The ids, a negative one counted from the end of a memory of `n` rows. -/
def wrapped (n : BitVec 32) (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 n))) ids)

/-- The entity memory after the update. -/
def entity (x : FVec Ideal S16384x128 .f32) (ids : IVec S16384 32) (w : FVec Ideal S64x128 .f32) (b : FVec Ideal S64 .f32)
    (mem : FVec Ideal S1000000x64 .f32) : FVec Ideal S1000000x64 .f32 :=
  Host.scatterAdd scatter_S1000000x64_S16384x1_S16384x64_1_0_0_1 mem (wrapped 1000000#32 ids) (updates x w b)

/-- The relation memory after the update. -/
def relation (x : FVec Ideal S16384x128 .f32) (ids : IVec S16384 32) (w : FVec Ideal S64x128 .f32) (b : FVec Ideal S64 .f32)
    (mem : FVec Ideal S1000x64 .f32) : FVec Ideal S1000x64 .f32 :=
  Host.scatterAdd scatter_S1000x64_S16384x1_S16384x64_1_0_0_1 mem (wrapped 1000#32 ids) (updates x w b)

/-- Every run of the reference ends with the two updated memories, its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v13)
          = entity (m ((c.tc : Thread nD τ).loc main_arg0)) (m ((c.tc : Thread nD τ).loc main_arg2)) (m ((c.tc : Thread nD τ).loc main_arg4))
              (m ((c.tc : Thread nD τ).loc main_arg5)) (m ((c.tc : Thread nD τ).loc main_arg8))
        ∧ r.2.mem ((c.tc : Thread nD τ).loc main_v27)
          = relation (m ((c.tc : Thread nD τ).loc main_arg1)) (m ((c.tc : Thread nD τ).loc main_arg3)) (m ((c.tc : Thread nD τ).loc main_arg6))
              (m ((c.tc : Thread nD τ).loc main_arg7)) (m ((c.tc : Thread nD τ).loc main_arg9)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) := by
  hlo_run
  all_goals rfl

end Cert.ReferenceIdeal.Value

end
-- ==== Proof.Order.lean ====
/-
  The order in which the node ids are taken: the stable sort of the ids as one permutation of the positions, under which
  the sorted ids and the sorting positions are both read.
-/
module

public import Idealize.ShloMosaic.Lib.SortFacts
public import Idealize.ShloMosaic.PureOps
public import Idealize.ShloMosaic.Lib.Tactic

@[expose] public section

set_option maxRecDepth 16384

noncomputable section

namespace Cert.Order

open Idealize.ShloMosaic

/-- A table of 16384 words. -/
abbrev Words := IVec (⟨1, ![16384]⟩ : Shape) 32

/-- Whether the id at position `k` is less than the one at `k'`, both read signed. -/
def less (ids : Words) (k k' : Fin 16384) : Bool :=
  IntOp.cmpi .slt (ids (Shape.Idx.ofFin k)) (ids (Shape.Idx.ofFin k')) == 1#1

/-- The position that comes `k`-th when the ids are sorted. -/
def ord (ids : Words) (k : Fin 16384) : Fin 16384 := sortedFrom (less ids) k

/-- Every position comes exactly once. -/
theorem ord_bijective (ids : Words) : Function.Bijective (ord ids) :=
  ⟨sortedFrom_injective _, sortedFrom_surjective _⟩

/-- The `k`-th id in order. -/
def sorted (ids : Words) (k : Fin 16384) : BitVec 32 := ids (Shape.Idx.ofFin (ord ids k))

/-- The sort of the ids, read at an element. -/
theorem sort_eq (ids : Words) (cmp : BitVec 32 → BitVec 32 → BitVec 1) (hcmp : cmp = fun l r => IntOp.cmpi .slt l r)
    (j : (⟨1, ![16384]⟩ : Shape).Idx) : Host.sort ⟨1, ![16384]⟩ 0 cmp ids j = sorted ids (j 0) := by
  subst hcmp
  exact Host.sort_rank1 _ ids j

/-- The sort of the ids with a second table carried along, the second one read at an element. -/
theorem sort2_eq (ids y : Words) (cmp : BitVec 32 × BitVec 32 → BitVec 32 × BitVec 32 → BitVec 1)
    (hcmp : cmp = fun l r => IntOp.cmpi .slt l.1 r.1) (j : (⟨1, ![16384]⟩ : Shape).Idx) :
    (Host.sort2 ⟨1, ![16384]⟩ 0 cmp ids y).2 j = y (Shape.Idx.ofFin (ord ids (j 0))) := by
  subst hcmp
  unfold Host.sort2 ord less
  simp

/-- On words that hold naturals below half the range, the signed order is the naturals'. -/
theorem less_iff (ids : Words) (h : ∀ j, (ids j).toNat < 2 ^ 31) (k k' : Fin 16384) :
    less ids k k' = true ↔ (ids (Shape.Idx.ofFin k)).toNat < (ids (Shape.Idx.ofFin k')).toNat := by
  unfold less
  have e : ∀ x y : BitVec 32, x.toNat < 2 ^ 31 → y.toNat < 2 ^ 31 → ((IntOp.cmpi .slt x y == 1#1) = true ↔ x.toNat < y.toNat) := by
    intro x y hx hy
    have h1 : (IntOp.cmpi .slt x y == 1#1) = x.slt y := by
      change (BitVec.ofBool (x.slt y) == 1#1) = _
      generalize x.slt y = b; revert b; decide
    rw [h1]
    simp only [BitVec.slt, decide_eq_true_eq]
    rw [BitVec.toInt_eq_toNat_of_lt (by omega), BitVec.toInt_eq_toNat_of_lt (by omega)]
    omega
  exact e _ _ (h _) (h _)

/-- The ids in order do not decrease. -/
theorem sorted_mono (ids : Words) (h : ∀ j, (ids j).toNat < 2 ^ 31) (i j : Fin 16384) (hij : i ≤ j) :
    (sorted ids i).toNat ≤ (sorted ids j).toNat := by
  rcases eq_or_lt_of_le hij with rfl | hlt
  · exact le_rfl
  have key := sortedFrom_noInversion (less ids) (less ids)
    (fun a b hab => by
      by_contra hc
      rw [Bool.not_eq_false] at hc
      rw [less_iff ids h] at hab hc
      omega)
    (fun _ _ hab => hab)
    (fun a b c hab hbc => by
      by_contra hc
      rw [Bool.not_eq_false] at hc
      have h1 : ¬ less ids a b = true := by rw [hab]; decide
      have h2 : ¬ less ids b c = true := by rw [hbc]; decide
      rw [less_iff ids h] at h1 h2 hc
      omega) i j hlt
  have h3 : ¬ less ids (ord ids j) (ord ids i) = true := by
    show ¬ less ids (sortedFrom (less ids) j) (sortedFrom (less ids) i) = true
    rw [key]; decide
  rw [less_iff ids h] at h3
  unfold sorted
  omega

end Cert.Order

end
-- ==== Proof.KernelIdeal.ProjBody.lean ====
/-
  The projection kernel's body, run on whole staging buffers. At every grid point it stores the projected node block
  `x0 · x3ᵀ + x4`; the relation accumulator starts from zero at the first point and otherwise keeps what it held, and
  the point adds the one-hot product of its relation block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

/-- The body's test for the first grid point. -/
abbrev firstPoint (i : grid0.Coords) : Prop :=
  (Scalar.cmpi .ne (Scalar.extui (Scalar.cmpi .eq (BitVec.ofNat 32 (i 0).val) 0#32)) 0#32) = 1#1

/-- A load of all of a whole buffer reads what the buffer holds. -/
theorem readAt_unread {sp : Space} {s : Shape} {e : EltTy} {M : Memref sig .tc sp s e} (h : M.IsWhole) {off : Fin s.rank → ℕ}
    (inb : ∀ a, off a + s.size a ≤ s.size a) (x : s.Idx → Elt F e) :
    M.view.readAt (Elt F) (Rect.unit off s.size inb).toLoadRect (h.unread x) = x :=
  (View.readAt_full _ _ _).trans (h.read_unread x)

set_option maxHeartbeats 1000000 in
/-- At the first point the body leaves the projected node block and the relation sums of this block alone,
    whatever the two output buffers held. -/
theorem body_first (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1x1x1024 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : firstPoint i)
    (x0 : Vec F S1024x128 .f32) (x1 : Vec F S1024x128 .f32) (x2 : Vec F S1x1x1024 .i32) (x3 : Vec F S64x128 .f32) (x4 : Vec F S1x64 .f32) (x5 : Vec F S64x128 .f32) (x6 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x0 x3 x4) ∗ owns (c : Thread nD τ) arg9 fullShare (k0_pay3 x1 x5 x6 x2 (k0_pay2 (F := F)))) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    exact (View.read_writes_full _ _ _ _ _).trans (congr (congr (congrArg k0_pay1 (readAt_unread harg1 _ x0)) (readAt_unread harg4 _ x3)) (readAt_unread harg5 _ x4))
  iexists _; isplitr
  swap; · iexact H8
  ipureintro
  sl_unfold_words
  exact (View.read_writes_full _ _ _ _ _).trans (congr (congr (congr (congr (congrArg k0_pay3 (readAt_unread harg2 _ x1)) (readAt_unread harg6 _ x5)) (readAt_unread harg7 _ x6)) (readAt_unread harg3 _ x2))
    (View.readCov_full _ _ _ _ _))

set_option maxHeartbeats 1000000 in
/-- At a later point the body leaves the projected node block, and adds this block's relation sums to what the
    accumulator held. -/
theorem body_later (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1x1x1024 .i32) (harg3 : arg3.IsWhole) (arg4 : Memref sig .tc .vmem S64x128 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬ firstPoint i)
    (x0 : Vec F S1024x128 .f32) (x1 : Vec F S1024x128 .f32) (x2 : Vec F S1x1x1024 .i32) (x3 : Vec F S64x128 .f32) (x4 : Vec F S1x64 .f32) (x5 : Vec F S64x128 .f32) (x6 : Vec F S1x64 .f32) (x8 : Vec F S1024x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x0 x3 x4) ∗ owns (c : Thread nD τ) arg9 fullShare (k0_pay3 x1 x5 x6 x2 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    exact (View.read_writes_full _ _ _ _ _).trans (congr (congr (congrArg k0_pay1 (readAt_unread harg1 _ x0)) (readAt_unread harg4 _ x3)) (readAt_unread harg5 _ x4))
  iexists _; isplitr
  swap; · iexact H8
  ipureintro
  sl_unfold_words
  exact (View.read_writes_full _ _ _ _ _).trans (congr (congr (congr (congr (congrArg k0_pay3 (readAt_unread harg2 _ x1)) (readAt_unread harg6 _ x5)) (readAt_unread harg7 _ x6)) (readAt_unread harg3 _ x2))
    (readAt_unread harg9 _ x8))

end Cert.KernelIdeal.Run

end
-- ==== Proof.KernelIdeal.ScatterBody.lean ====
/-
  The scatter kernel's body, run on whole staging buffers with the sorted-index table held. Where the point's index
  differs from the one before (or the point is the first) the update is stored; elsewhere it is added.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.ProjBody
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

/-- The table's word at an offset. -/
def word (T : pre1.Contents (Elt F)) (off : Fin 1 → ℕ) : BitVec 32 := T.atD 0 off

/-- The body's test that point `i` begins a new row, its two words read of the table. -/
abbrev newRow (i : grid1.Coords) (T : pre1.Contents (Elt F)) : Prop :=
  k1_cond1 i (word T (k1_off2 i)) (word T (k1_off1 i)) = 1#1

/-- The body's test that point `i` goes on with the row of the point before. -/
abbrev sameRow (i : grid1.Coords) (T : pre1.Contents (Elt F)) : Prop :=
  k1_cond2 i (word T (k1_off2 i)) (word T (k1_off1 i)) = 1#1

/-- A one-word load of the table reads the element at its offset. -/
theorem word_read (T : pre1.Contents (Elt F)) (off : Fin 1 → ℕ) (inb : ∀ a, off a + S1.size a ≤ S16384.size a)
    (x : (Rect.unit (s := S16384) off S1.size inb).shape.Idx) :
    ((Memref.whole main_v5).access (Rect.unit (s := S16384) off S1.size inb)).read (Elt F) (T 0) x = word T off := by
  have h : ∀ a, off a + 1 ≤ (pre1.ref 0).ty.shape.size a := fun a => by
    have ha := inb a
    fin_cases a
    exact ha
  refine Eq.trans ?_ (dif_pos h).symm
  refine congrArg (T 0) (funext fun a => Fin.ext ?_)
  have hx : (x a).val = 0 := by
    have := (x a).isLt
    fin_cases a
    exact Nat.lt_one_iff.mp this
  show off a + 1 * (x a).val = off a
  rw [hx]; omega

set_option maxHeartbeats 1000000 in
/-- Where a new row begins the body stores the update fetched, whatever the output buffer held. -/
theorem scatter_first (c : Dev nD) (i : grid1.Coords) (arg2 : Memref sig .tc .vmem S1x1x64 .f32) (harg2 : arg2.IsWhole)
    (arg3 : Memref sig .tc .hbm S1000000x1x64 .f32) (harg3 : arg3.IsWhole) (arg4 : Memref sig .tc .vmem S1x1x64 .f32) (harg4 : arg4.IsWhole)
    (T : pre1.Contents (Elt F)) (hc1 : newRow i T) (hc2 : ¬ sameRow i T) (x0 : Vec F S1x1x64 .f32) (E : Set ℕ) (K : PUnit → sProp 𝕄) :
    iprop((((c : Thread nD τ).loc main_v5) ↦{fullShare} T 0) ∗ owns (c : Thread nD τ) arg2 fullShare x0 ∗ (∃ d, owns (c : Thread nD τ) arg4 fullShare d)
        ∗ (iprop((((c : Thread nD τ).loc main_v5) ↦{fullShare} T 0) ∗ owns (c : Thread nD τ) arg2 fullShare x0 ∗ owns (c : Thread nD τ) arg4 fullShare (k1_pay1 x0)) -∗ K ⟨⟩))
      ⊢ wp frame (wpE (defs₀ (F := F)) Variants.none c none) E (cc1__scatter_kernel i (Memref.whole main_v5) (Memref.isWhole_whole _) arg2 harg2 arg3 harg3 arg4 harg4) K := by
  simp only [cc1__scatter_kernel_eq_skeleton]; unfold cc1__scatter_kernel_skel
  unfold smemLoad smemLoadElt owns
  iintro ⟨Ht, ⟨%f0, %hf0, H0⟩, ⟨%d1, %f1, -, H1⟩, Hk⟩
  obtain rfl := harg2.eq_unread hf0
  simp only [Prog.bind_op, Prog.bind_ret]
  iapply (wp_load_rect Variants.none (c : Thread nD τ) none E (m := Memref.whole main_v5) (r := Rect.unit (s := S16384) (k1_off2 i) S1.size (k1_off2_inb i)) (q := fullShare) (f := T 0) (Finset.subset_univ _)) $$ [Ht]
  · iexact Ht
  iintro Ht
  rw [word_read]
  iapply (wp_load_rect Variants.none (c : Thread nD τ) none E (m := Memref.whole main_v5) (r := Rect.unit (s := S16384) (k1_off1 i) S1.size (k1_off1_inb i)) (q := fullShare) (f := T 0) (Finset.subset_univ _)) $$ [Ht]
  · iexact Ht
  iintro Ht
  rw [word_read]
  rw [dif_pos hc1, dif_neg hc2]
  sl_exec
  sl_step
  iapply Hk
  isplitl [Ht]; · iexact Ht
  isplitl [H0]
  · iexists _; isplitr; · ipureintro; exact harg2.read_unread _
    iexact H0
  iexists _; isplitr
  swap; · iexact H1
  ipureintro
  sl_unfold_words
  exact (View.read_writes_full _ _ _ _ _).trans (congrArg k1_pay1 (readAt_unread harg2 _ x0))

set_option maxHeartbeats 1000000 in
/-- Where the row is the one before the body adds the update fetched to what the output buffer holds. -/
theorem scatter_later (c : Dev nD) (i : grid1.Coords) (arg2 : Memref sig .tc .vmem S1x1x64 .f32) (harg2 : arg2.IsWhole)
    (arg3 : Memref sig .tc .hbm S1000000x1x64 .f32) (harg3 : arg3.IsWhole) (arg4 : Memref sig .tc .vmem S1x1x64 .f32) (harg4 : arg4.IsWhole)
    (T : pre1.Contents (Elt F)) (hc1 : ¬ newRow i T) (hc2 : sameRow i T) (x0 : Vec F S1x1x64 .f32) (x1 : Vec F S1x1x64 .f32) (E : Set ℕ) (K : PUnit → sProp 𝕄) :
    iprop((((c : Thread nD τ).loc main_v5) ↦{fullShare} T 0) ∗ owns (c : Thread nD τ) arg2 fullShare x0 ∗ owns (c : Thread nD τ) arg4 fullShare x1
        ∗ (iprop((((c : Thread nD τ).loc main_v5) ↦{fullShare} T 0) ∗ owns (c : Thread nD τ) arg2 fullShare x0 ∗ owns (c : Thread nD τ) arg4 fullShare (k1_pay2 x1 x0)) -∗ K ⟨⟩))
      ⊢ wp frame (wpE (defs₀ (F := F)) Variants.none c none) E (cc1__scatter_kernel i (Memref.whole main_v5) (Memref.isWhole_whole _) arg2 harg2 arg3 harg3 arg4 harg4) K := by
  simp only [cc1__scatter_kernel_eq_skeleton]; unfold cc1__scatter_kernel_skel
  unfold smemLoad smemLoadElt owns
  iintro ⟨Ht, ⟨%f0, %hf0, H0⟩, ⟨%f1, %hf1, H1⟩, Hk⟩
  obtain rfl := harg2.eq_unread hf0; obtain rfl := harg4.eq_unread hf1
  simp only [Prog.bind_op, Prog.bind_ret]
  iapply (wp_load_rect Variants.none (c : Thread nD τ) none E (m := Memref.whole main_v5) (r := Rect.unit (s := S16384) (k1_off2 i) S1.size (k1_off2_inb i)) (q := fullShare) (f := T 0) (Finset.subset_univ _)) $$ [Ht]
  · iexact Ht
  iintro Ht
  rw [word_read]
  iapply (wp_load_rect Variants.none (c : Thread nD τ) none E (m := Memref.whole main_v5) (r := Rect.unit (s := S16384) (k1_off1 i) S1.size (k1_off1_inb i)) (q := fullShare) (f := T 0) (Finset.subset_univ _)) $$ [Ht]
  · iexact Ht
  iintro Ht
  rw [word_read]
  rw [dif_neg hc1, dif_pos hc2]
  sl_exec
  sl_step
  iapply Hk
  isplitl [Ht]; · iexact Ht
  isplitl [H0]
  · iexists _; isplitr; · ipureintro; exact harg2.read_unread _
    iexact H0
  iexists _; isplitr
  swap; · iexact H1
  ipureintro
  sl_unfold_words
  exact (View.read_writes_full _ _ _ _ _).trans (congr (congrArg k1_pay2 (readAt_unread harg4 _ x1)) (readAt_unread harg2 _ x0))

end Cert.KernelIdeal.Run

end
-- ==== Proof.KernelIdeal.Table.lean ====
/-
  The sorted-index table as the scatter pipeline reads it: which word each grid point loads, when the body's two tests
  hold, which block the output's index map names, and when the output is written back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.ScatterBody
public import Idealize.ShloMosaic.Lib.Pipeline.FrameBody
public import Idealize.ShloMosaic.Lib.WordCmp
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

open Idealize.ShloMosaic.Pipeline (Dat BodyObligation)

/-- The table's word at position `n`. -/
def sid (T : pre1.Contents (Elt F)) (n : ℕ) : BitVec 32 := word T ![n]

/-- The grid coordinate of point `t` is `t`. -/
theorem coord1 (t : Fin grid1.N) : (grid1.coords t 0).val = t.val := by
  have ht : t.val < 16384 := Nat.lt_of_lt_of_eq t.isLt N_1
  have e0 : (grid1.coords t 0).val = t.val / 1 % 16384 := Pipeline.Grid.coords_val t 0 (by decide) rfl
  omega

/-- A coordinate is below the grid's extent. -/
theorem coord1_lt (i : grid1.Coords) : (i 0).val < 16384 := (i 0).isLt

/-- The current word's offset is the coordinate. -/
theorem off_cur (i : grid1.Coords) : k1_off1 i = ![(i 0).val] := by
  have h := coord1_lt i
  unfold k1_off1 Scalar.indexCast
  simp only [BitVec.toNat_ofNat]
  rw [Nat.mod_eq_of_lt (by omega)]

/-- The previous word's offset is the coordinate less one (zero at zero). -/
theorem off_prev (i : grid1.Coords) : k1_off2 i = ![(i 0).val - 1] := by
  have h := coord1_lt i
  generalize hn : (i 0).val = n at h
  unfold k1_off2 Scalar.indexCast
  simp only [hn]
  congr 1
  rcases Nat.eq_zero_or_pos n with h0 | h0
  · subst h0; rfl
  · have e : Scalar.subi (BitVec.ofNat 32 n) 1#32 = BitVec.ofNat 32 (n - 1) := by
      apply BitVec.eq_of_toNat_eq
      show (BitVec.ofNat 32 n - 1#32).toNat = _
      simp only [BitVec.toNat_sub, BitVec.toNat_ofNat]
      omega
    rw [e]
    have e2 : Scalar.maxsi (BitVec.ofNat 32 (n - 1)) 0#32 = BitVec.ofNat 32 (n - 1) := by
      rcases Nat.eq_or_lt_of_le h0 with h1 | h1
      · subst h1; rfl
      apply BitVec.eq_of_toInt_eq
      have hi : (BitVec.ofNat 32 (n - 1)).toInt = (n - 1 : ℕ) := by
        rw [BitVec.toInt_eq_toNat_of_lt (by simp only [BitVec.toNat_ofNat]; omega)]
        simp only [BitVec.toNat_ofNat]; omega
      unfold Scalar.maxsi IntOp.maxsi
      split
      · rfl
      · rename_i hlt
        exfalso
        apply hlt
        simp only [BitVec.slt, hi]; simp; omega
    rw [e2, BitVec.toNat_ofNat, Nat.mod_eq_of_lt (by omega)]

/-- The first test in plain words, for any two words read. -/
theorem cond1_iff (i : grid1.Coords) (v w : BitVec 32) : k1_cond1 i v w = 1#1 ↔ ((i 0).val = 0 ∨ w ≠ v) := by
  have h := coord1_lt i
  unfold k1_cond1
  generalize (i 0).val = n at h
  have e0 : Scalar.cmpi .eq (BitVec.ofNat 32 n) 0#32 = 1#1 ↔ n = 0 := by unfold Scalar.cmpi; word_cmp
  have e1 : Scalar.cmpi .ne w v = 1#1 ↔ w ≠ v := by
    unfold Scalar.cmpi IntOp.cmpi
    by_cases hwv : w = v
    · simp [hwv]
    · simp only [bne_iff_ne.mpr hwv]; simp [hwv]
  rw [← e0, ← e1]
  show Scalar.cmpi .ne (Scalar.extui (Scalar.ori (Scalar.cmpi .eq (BitVec.ofNat 32 n) 0#32) (Scalar.cmpi .ne w v))) 0#32 = 1#1 ↔ _
  generalize Scalar.cmpi .eq (BitVec.ofNat 32 n) 0#32 = a
  generalize Scalar.cmpi .ne w v = b
  revert a b; decide

/-- The second test is the first one's negation. -/
theorem cond2_iff (i : grid1.Coords) (v w : BitVec 32) : k1_cond2 i v w = 1#1 ↔ ¬ k1_cond1 i v w = 1#1 := by
  show Scalar.cmpi .ne (Scalar.extui (Scalar.xori (Scalar.ori (Scalar.cmpi .eq (BitVec.ofNat 32 (i 0).val) 0#32) (Scalar.cmpi .ne w v)) 1#1)) 0#32 = 1#1
    ↔ ¬ Scalar.cmpi .ne (Scalar.extui (Scalar.ori (Scalar.cmpi .eq (BitVec.ofNat 32 (i 0).val) 0#32) (Scalar.cmpi .ne w v))) 0#32 = 1#1
  generalize Scalar.cmpi .eq (BitVec.ofNat 32 (i 0).val) 0#32 = a
  generalize Scalar.cmpi .ne w v = b
  revert a b; decide

/-- Point `t` begins a row exactly when it is the first or its word differs from the one before. -/
theorem newRow_iff (T : pre1.Contents (Elt F)) (t : Fin grid1.N) :
    newRow (grid1.coords t) T ↔ (t.val = 0 ∨ sid T t.val ≠ sid T (t.val - 1)) := by
  unfold newRow sid
  rw [cond1_iff, coord1, off_cur, off_prev, coord1]

theorem sameRow_iff (i : grid1.Coords) (T : pre1.Contents (Elt F)) : sameRow i T ↔ ¬ newRow i T := cond2_iff _ _ _

/-- The word the output's index map reads. -/
theorem map_word (T : pre1.Contents (Elt F)) (off : Fin 1 → ℕ) (inb : ∀ a, off a + S1.size a ≤ S16384.size a) (h1) :
    T.at 0 (Rect.unit (s := S16384) off S1.size inb) h1 = word T off :=
  word_read T off inb (Shape.Idx.first (h1.symm ▸ Nat.one_pos))

/-- The output's block at coordinate `i`: the row the table names. -/
theorem outIx_eq (T : pre1.Contents (Elt F)) (i : grid1.Coords) :
    cc1_transform_2 k1_off1_inb numel1_S1 T i = ![(sid T (i 0).val).toNat, 0, 0] := by
  unfold cc1_transform_2 sid
  rw [← off_cur i]
  exact congrArg (fun w : BitVec 32 => ![w.toNat, 0, 0]) (map_word T (k1_off1 i) (k1_off1_inb i) numel1_S1)

variable (a : (pcfg1 (F := F)).Adm)

/-- The output window is stored into at every point. -/
theorem idle1_out (i : grid1.Coords) : (cfg1 a).idle 1 i = false := by
  show (!(k1_cond1 i (word a.1 (k1_off2 i)) (word a.1 (k1_off1 i)) == 1#1) && !(k1_cond2 i (word a.1 (k1_off2 i)) (word a.1 (k1_off1 i)) == 1#1)) = false
  by_cases h : k1_cond1 i (word a.1 (k1_off2 i)) (word a.1 (k1_off1 i)) = 1#1
  · simp [h]
  · have h2 := (cond2_iff i _ _).mpr h
    simp [h2]

theorem N_cfg1 : (cfg1 a).N = 16384 := N_1

/-- The output window's block index at point `t`. -/
theorem outIndex (t : Fin (cfg1 a).N) : (win1 a 1).index t = ![(sid a.1 t.val).toNat, 0, 0] := by
  show cc1_transform_2 k1_off1_inb numel1_S1 a.1 (grid1.coords t) = _
  rw [outIx_eq, coord1]

/-- The input window's block index at point `t`. -/
theorem inIndex (t : Fin (cfg1 a).N) : (win1 a 0).index t = ![t.val, 0, 0] := by
  show cc1_transform_0 (grid1.coords t) = _
  have ht : t.val < 16384 := Nat.lt_of_lt_of_eq t.isLt N_1
  unfold cc1_transform_0
  simp only [coord1, BitVec.toNat_ofNat]
  rw [Nat.mod_eq_of_lt (by omega)]

/-- The output is not written back after a point whose successor goes on with its row. -/
theorem flush1_out_false (t : Fin (cfg1 a).N) (ht : t.val + 1 < 16384) (h : sid a.1 (t.val + 1) = sid a.1 t.val) :
    (win1 a 1).flush t = false := by
  have hN : (cfg1 a).grid.N = 16384 := N_1
  unfold Pipeline.Window.flush
  rw [Bool.and_eq_false_iff]
  right
  rw [Bool.or_eq_false_iff]
  constructor
  · exact decide_eq_false (fun he => by have := he.trans hN; omega)
  · refine decide_eq_false ?_
    rintro ⟨h', hne⟩
    refine hne ?_
    rw [outIndex a ⟨t.val + 1, h'⟩, outIndex a t]
    simp only [h]

/-- The output is written back after a point that ends its row. -/
theorem flush1_out_true (t : Fin (cfg1 a).N) (h : t.val + 1 = 16384 ∨ sid a.1 (t.val + 1) ≠ sid a.1 t.val) :
    (win1 a 1).flush t = true := by
  have hN : (cfg1 a).grid.N = 16384 := N_1
  have ht : t.val < 16384 := Nat.lt_of_lt_of_eq t.isLt N_1
  unfold Pipeline.Window.flush
  rw [Bool.and_eq_true_iff]
  refine ⟨rfl, ?_⟩
  rw [Bool.or_eq_true_iff]
  by_cases hl : t.val + 1 = 16384
  · left; exact decide_eq_true (hl.trans hN.symm)
  · right
    refine decide_eq_true ⟨Nat.lt_of_lt_of_eq (by omega) hN.symm, fun he => ?_⟩
    rw [outIndex a ⟨t.val + 1, Nat.lt_of_lt_of_eq (by omega) hN.symm⟩, outIndex a t] at he
    have := congrFun he 0
    simp only [Matrix.cons_val_zero] at this
    exact (h.resolve_left hl) (BitVec.eq_of_toNat_eq this)

end Cert.KernelIdeal.Run

end
-- ==== Proof.KernelIdeal.ProjData.lean ====
/-
  The projection pipeline's data at symbolic entry contents `V`: what each window's staging buffer holds before and after
  the body at every grid point, the relation accumulator as a recursion over the points, and the body obligation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.ProjBody
public import Idealize.ShloMosaic.Lib.Pipeline.FrameBody
public import Idealize.ShloMosaic.Lib.WordCmp
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

open Idealize.ShloMosaic.Pipeline (Dat BodyObligation)

variable (V : (c : Dev nD) → (b : Ref sig .tc) → Buf (Elt F) ((c : Thread nD τ).loc b))

/-- The block of window `w`'s array that grid point `t` works on, read of the entry contents. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The relation sums of the block at point `t`, added to `a`. -/
def relStep (c : Dev nD) (t : Fin cfg0.N) (a : Vec F S1024x64 .f32) : Vec F S1024x64 .f32 :=
  k0_pay3 (blockIn V c 1 t) (blockIn V c 5 t) (blockIn V c 6 t) (blockIn V c 2 t) a

/-- The relation accumulator after point `n`: from zero, every block's sums added in order. -/
def relAcc (c : Dev nD) : (n : ℕ) → n < cfg0.N → Vec F S1024x64 .f32
  | 0, h => relStep V c ⟨0, h⟩ (k0_pay2 (F := F))
  | n + 1, h => relStep V c ⟨n + 1, h⟩ (relAcc c n (Nat.lt_of_succ_lt h))

/-- The projected node block of point `t`. -/
def projBlock (c : Dev nD) (t : Fin cfg0.N) : Vec F S1024x64 .f32 :=
  k0_pay1 (blockIn V c 0 t) (blockIn V c 3 t) (blockIn V c 4 t)

/-- The accumulator at the first point. -/
theorem relAcc_first (c : Dev nD) (t : Fin cfg0.N) (h0 : t.val % 16 = 0) :
    relAcc V c t.val t.isLt = relStep V c t (k0_pay2 (F := F)) := by
  have hN : t.val < 16 := lt_of_lt_of_eq t.isLt (show cfg0.N = 16 from N_0)
  obtain ⟨n, hn⟩ := t
  obtain rfl : n = 0 := by dsimp only at h0 hN; omega
  rfl

/-- The accumulator at a later point. -/
theorem relAcc_later (c : Dev nD) (t : Fin cfg0.N) (h0 : ¬ t.val % 16 = 0) :
    relAcc V c t.val t.isLt = relStep V c t (relAcc V c (t.val - 1) (Nat.lt_of_le_of_lt (Nat.sub_le _ _) t.isLt)) := by
  obtain ⟨n, hn⟩ := t
  cases n with
  | zero => exact absurd (Nat.zero_mod 16) h0
  | succ n => rfl

/-- The body's test for the first point holds at point 0 of the sixteen only. -/
theorem firstPoint_iff : ∀ t : Fin cfg0.N, firstPoint (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [firstPoint, e0]
    word_cmp
   : ∀ t : Fin grid0.N, firstPoint (grid0.coords t) ↔ t.val % 16 = 0)

/-- The proof data: input buffers keep their blocks, the two outputs hold the projected block and the accumulator. -/
def projDat (c : Dev nD) : Dat τ (Elt F) Unit ℕ (UR sig nD τ) ℕ cfg0 c where
  A w := V c (Pipeline.arrRef spec0 w)
  after w t := match w with
    | ⟨0, _⟩ => blockIn V c 0 t
    | ⟨1, _⟩ => blockIn V c 1 t
    | ⟨2, _⟩ => blockIn V c 2 t
    | ⟨3, _⟩ => blockIn V c 3 t
    | ⟨4, _⟩ => blockIn V c 4 t
    | ⟨5, _⟩ => blockIn V c 5 t
    | ⟨6, _⟩ => blockIn V c 6 t
    | ⟨7, _⟩ => projBlock V c t
    | ⟨8, _⟩ => relAcc V c t.val t.isLt
  Φ _ := Pipeline.ΦA spec0 c
  q _ := fullShare
  owed _ := 0

theorem projDat_A (c : Dev nD) (w : Fin cfg0.W) : (projDat V c).A w = V c (Pipeline.arrRef spec0 w) := by
  dsimp only [projDat]

theorem projAfter_0 (c : Dev nD) (t : Fin cfg0.N) : (projDat V c).after 0 t = blockIn V c 0 t := by dsimp only [projDat]
theorem projAfter_1 (c : Dev nD) (t : Fin cfg0.N) : (projDat V c).after 1 t = blockIn V c 1 t := by dsimp only [projDat]
theorem projAfter_2 (c : Dev nD) (t : Fin cfg0.N) : (projDat V c).after 2 t = blockIn V c 2 t := by dsimp only [projDat]
theorem projAfter_3 (c : Dev nD) (t : Fin cfg0.N) : (projDat V c).after 3 t = blockIn V c 3 t := by dsimp only [projDat]
theorem projAfter_4 (c : Dev nD) (t : Fin cfg0.N) : (projDat V c).after 4 t = blockIn V c 4 t := by dsimp only [projDat]
theorem projAfter_5 (c : Dev nD) (t : Fin cfg0.N) : (projDat V c).after 5 t = blockIn V c 5 t := by dsimp only [projDat]
theorem projAfter_6 (c : Dev nD) (t : Fin cfg0.N) : (projDat V c).after 6 t = blockIn V c 6 t := by dsimp only [projDat]
theorem projAfter_7 (c : Dev nD) (t : Fin cfg0.N) : (projDat V c).after 7 t = projBlock V c t := by dsimp only [projDat]
theorem projAfter_8 (c : Dev nD) (t : Fin cfg0.N) : (projDat V c).after 8 t = relAcc V c t.val t.isLt := by dsimp only [projDat]

/-! An input window's buffer holds its block when the body is called, fetched at that point or kept. -/

theorem projBefore_0 (c : Dev nD) (t : Fin cfg0.N) (d) : (projDat V c).before 0 t d = blockIn V c 0 t :=
  ((projDat V c).before_in_eq_fetched 0 rfl (fun _ => rfl) (fun _ _ _ => rfl) (fun t => by rw [projAfter_0]; unfold Dat.blockOf blockIn; rw [projDat_A]) t d).trans
    (by unfold Dat.fetched Dat.blockOf blockIn; rw [projDat_A]; try rfl)
theorem projBefore_1 (c : Dev nD) (t : Fin cfg0.N) (d) : (projDat V c).before 1 t d = blockIn V c 1 t :=
  ((projDat V c).before_in_eq_fetched 1 rfl (fun _ => rfl) (fun _ _ _ => rfl) (fun t => by rw [projAfter_1]; unfold Dat.blockOf blockIn; rw [projDat_A]) t d).trans
    (by unfold Dat.fetched Dat.blockOf blockIn; rw [projDat_A]; try rfl)
theorem projBefore_2 (c : Dev nD) (t : Fin cfg0.N) (d) : (projDat V c).before 2 t d = blockIn V c 2 t :=
  ((projDat V c).before_in_eq_fetched 2 rfl (fun _ => rfl) (fun _ _ _ => rfl) (fun t => by rw [projAfter_2]; unfold Dat.blockOf blockIn; rw [projDat_A]) t d).trans
    (by unfold Dat.fetched Dat.blockOf blockIn; rw [projDat_A]; try rfl)
theorem projBefore_3 (c : Dev nD) (t : Fin cfg0.N) (d) : (projDat V c).before 3 t d = blockIn V c 3 t :=
  ((projDat V c).before_in_eq_fetched 3 rfl (fun _ => rfl) (fun _ _ _ => rfl) (fun t => by rw [projAfter_3]; unfold Dat.blockOf blockIn; rw [projDat_A]) t d).trans
    (by unfold Dat.fetched Dat.blockOf blockIn; rw [projDat_A]; try rfl)
theorem projBefore_4 (c : Dev nD) (t : Fin cfg0.N) (d) : (projDat V c).before 4 t d = blockIn V c 4 t :=
  ((projDat V c).before_in_eq_fetched 4 rfl (fun _ => rfl) (fun _ _ _ => rfl) (fun t => by rw [projAfter_4]; unfold Dat.blockOf blockIn; rw [projDat_A]) t d).trans
    (by unfold Dat.fetched Dat.blockOf blockIn; rw [projDat_A]; try rfl)
theorem projBefore_5 (c : Dev nD) (t : Fin cfg0.N) (d) : (projDat V c).before 5 t d = blockIn V c 5 t :=
  ((projDat V c).before_in_eq_fetched 5 rfl (fun _ => rfl) (fun _ _ _ => rfl) (fun t => by rw [projAfter_5]; unfold Dat.blockOf blockIn; rw [projDat_A]) t d).trans
    (by unfold Dat.fetched Dat.blockOf blockIn; rw [projDat_A]; try rfl)
theorem projBefore_6 (c : Dev nD) (t : Fin cfg0.N) (d) : (projDat V c).before 6 t d = blockIn V c 6 t :=
  ((projDat V c).before_in_eq_fetched 6 rfl (fun _ => rfl) (fun _ _ _ => rfl) (fun t => by rw [projAfter_6]; unfold Dat.blockOf blockIn; rw [projDat_A]) t d).trans
    (by unfold Dat.fetched Dat.blockOf blockIn; rw [projDat_A]; try rfl)

/-- At a later point the accumulator's buffer holds what the point before left. -/
theorem projBefore_8 (c : Dev nD) (t : Fin cfg0.N) (h0 : ¬ t.val % 16 = 0) (d) :
    (projDat V c).before 8 t d = relAcc V c (t.val - 1) (Nat.lt_of_le_of_lt (Nat.sub_le _ _) t.isLt) := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [projDat]

set_option maxHeartbeats 1600000 in
/-- The body at any point, from the staging buffers before it to the staging buffers after it. -/
theorem proj_body (c : Dev nD) (t : Fin cfg0.N) :
    (iprop((projDat V c).Φ t.castSucc ∗ (projDat V c).owesAt () t.castSucc
    ∗ (∃ d, owns (c : Thread nD τ) (win0_0.stage (cfg0.slots t 0)) fullShare ((projDat V c).before 0 t d))
    ∗ (∃ d, owns (c : Thread nD τ) (win0_1.stage (cfg0.slots t 1)) fullShare ((projDat V c).before 1 t d))
    ∗ (∃ d, owns (c : Thread nD τ) (win0_2.stage (cfg0.slots t 2)) fullShare ((projDat V c).before 2 t d))
    ∗ (∃ d, owns (c : Thread nD τ) (win0_3.stage (cfg0.slots t 3)) fullShare ((projDat V c).before 3 t d))
    ∗ (∃ d, owns (c : Thread nD τ) (win0_4.stage (cfg0.slots t 4)) fullShare ((projDat V c).before 4 t d))
    ∗ (∃ d, owns (c : Thread nD τ) (win0_5.stage (cfg0.slots t 5)) fullShare ((projDat V c).before 5 t d))
    ∗ (∃ d, owns (c : Thread nD τ) (win0_6.stage (cfg0.slots t 6)) fullShare ((projDat V c).before 6 t d))
    ∗ (∃ d, owns (c : Thread nD τ) (win0_7.stage (cfg0.slots t 7)) fullShare ((projDat V c).before 7 t d))
    ∗ (∃ d, owns (c : Thread nD τ) (win0_8.stage (cfg0.slots t 8)) fullShare ((projDat V c).before 8 t d))) : sProp 𝕄)
    ⊢ wp frame (wpE (defs₀ (F := F)) Variants.none c none) Set.univ (bodyAt0 t) (fun _ => iprop((projDat V c).Φ t.succ ∗ (projDat V c).owesAt () t.succ
    ∗ owns (c : Thread nD τ) (win0_0.stage (cfg0.slots t 0)) fullShare ((projDat V c).after 0 t)
    ∗ owns (c : Thread nD τ) (win0_1.stage (cfg0.slots t 1)) fullShare ((projDat V c).after 1 t)
    ∗ owns (c : Thread nD τ) (win0_2.stage (cfg0.slots t 2)) fullShare ((projDat V c).after 2 t)
    ∗ owns (c : Thread nD τ) (win0_3.stage (cfg0.slots t 3)) fullShare ((projDat V c).after 3 t)
    ∗ owns (c : Thread nD τ) (win0_4.stage (cfg0.slots t 4)) fullShare ((projDat V c).after 4 t)
    ∗ owns (c : Thread nD τ) (win0_5.stage (cfg0.slots t 5)) fullShare ((projDat V c).after 5 t)
    ∗ owns (c : Thread nD τ) (win0_6.stage (cfg0.slots t 6)) fullShare ((projDat V c).after 6 t)
    ∗ owns (c : Thread nD τ) (win0_7.stage (cfg0.slots t 7)) fullShare ((projDat V c).after 7 t)
    ∗ owns (c : Thread nD τ) (win0_8.stage (cfg0.slots t 8)) fullShare ((projDat V c).after 8 t))) := by
  unfold bodyAt0
  simp only [projBefore_0, projBefore_1, projBefore_2, projBefore_3, projBefore_4, projBefore_5, projBefore_6]
  rw [show (projDat V c).Φ t.succ = (projDat V c).Φ t.castSucc from rfl,
    show (projDat V c).owesAt () t.succ = (projDat V c).owesAt () t.castSucc from rfl,
    projAfter_0, projAfter_1, projAfter_2, projAfter_3, projAfter_4, projAfter_5, projAfter_6, projAfter_7, projAfter_8]
  by_cases h0 : t.val % 16 = 0
  · rw [relAcc_first V c t h0]
    unfold projBlock relStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ ((firstPoint_iff t).mpr h0) (blockIn V c 0 t) (blockIn V c 1 t) (blockIn V c 2 t) (blockIn V c 3 t) (blockIn V c 4 t) (blockIn V c 5 t) (blockIn V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [relAcc_later V c t h0]
    simp only [projBefore_8 V c t h0]
    unfold projBlock relStep
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ (fun h => h0 ((firstPoint_iff t).mp h)) (blockIn V c 0 t) (blockIn V c 1 t) (blockIn V c 2 t) (blockIn V c 3 t) (blockIn V c 4 t) (blockIn V c 5 t) (blockIn V c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The pipeline calls the body at point `t`'s buffers. -/
theorem proj_row (t : Fin cfg0.N) : defs₀ (F := F) .tc cfg0.body (cfg0.bodyArgs t (cfg0.slots t)) = bodyAt0 t := by
  unfold defs₀; rw [Defs.onTc_tc]

/-- The body obligation of the projection pipeline. -/
theorem proj_obligation (c : Dev nD) : BodyObligation (projDat (F := F) V c) (defs₀ (F := F)) Variants.none () Set.univ := fun t => by
  rw [bigSep_W0, bigSep_W0, proj_row]
  exact triple_restated (proj_body V c t) rfl .rfl fun _ => .rfl

end Cert.KernelIdeal.Run

end
-- ==== Proof.KernelIdeal.ScatterData.lean ====
/-
  The scatter pipeline's data at symbolic entry contents `V` and symbolic table contents `a`: the running sum of the
  current row as a recursion over the points, what the staging buffers hold before and after the body, and the body
  obligation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Table
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

open Idealize.ShloMosaic.Pipeline (Dat BodyObligation)

variable (a : (pcfg1 (F := F)).Adm) (V : (c : Dev nD) → (b : Ref sig .tc) → Buf (Elt F) ((c : Thread nD τ).loc b))

/-- The update point `t` fetches, read of the entry contents. -/
def updIn (c : Dev nD) (t : Fin (cfg1 a).N) : Vec F S1x1x64 .f32 :=
  ((win1 a 0).blk t).view.read (Elt F) (V c (Pipeline.arrRef spec1 0))

open Classical in
/-- The output buffer after point `n`: a new row starts from its first update, a row going on adds the next. -/
def rowAcc (c : Dev nD) : (n : ℕ) → n < (cfg1 a).N → Vec F S1x1x64 .f32
  | 0, h => k1_pay1 (updIn a V c ⟨0, h⟩)
  | n + 1, h =>
    if sid a.1 (n + 1) = sid a.1 n then k1_pay2 (rowAcc c n (Nat.lt_of_succ_lt h)) (updIn a V c ⟨n + 1, h⟩)
    else k1_pay1 (updIn a V c ⟨n + 1, h⟩)

/-- The buffer where a row begins. -/
theorem rowAcc_new (c : Dev nD) (t : Fin (cfg1 a).N) (h : newRow (grid1.coords t) a.1) :
    rowAcc a V c t.val t.isLt = k1_pay1 (updIn a V c t) := by
  rw [newRow_iff] at h
  obtain ⟨n, hn⟩ := t
  cases n with
  | zero => rfl
  | succ n => exact if_neg (h.resolve_left (Nat.succ_ne_zero n))

/-- The buffer where a row goes on. -/
theorem rowAcc_same (c : Dev nD) (t : Fin (cfg1 a).N) (h : ¬ newRow (grid1.coords t) a.1) :
    rowAcc a V c t.val t.isLt = k1_pay2 (rowAcc a V c (t.val - 1) (Nat.lt_of_le_of_lt (Nat.sub_le _ _) t.isLt)) (updIn a V c t) := by
  rw [newRow_iff, not_or, not_not] at h
  obtain ⟨n, hn⟩ := t
  cases n with
  | zero => exact absurd rfl h.1
  | succ n => exact if_pos h.2

/-- The proof data: the input buffer keeps its update, the output buffer holds the row's running sum; the table rides in
    the invariant, at the full share. -/
def scatDat (c : Dev nD) : Dat τ (Elt F) Unit ℕ (UR sig nD τ) ℕ (cfg1 a) c where
  A w := V c (Pipeline.arrRef spec1 w)
  after w t := match w with
    | ⟨0, _⟩ => updIn a V c t
    | ⟨1, _⟩ => rowAcc a V c t.val t.isLt
  Φ _ := iprop(Pipeline.ΦA spec1 c ∗ (((c : Thread nD τ).loc main_v5) ↦{fullShare} a.1 0))
  q _ := fullShare
  owed _ := 0

theorem scatDat_A (c : Dev nD) (w : Fin (cfg1 a).W) : (scatDat a V c).A w = V c (Pipeline.arrRef spec1 w) := by
  dsimp only [scatDat]

theorem scatAfter_0 (c : Dev nD) (t : Fin (cfg1 a).N) : (scatDat a V c).after 0 t = updIn a V c t := rfl
theorem scatAfter_1 (c : Dev nD) (t : Fin (cfg1 a).N) : (scatDat a V c).after 1 t = rowAcc a V c t.val t.isLt := rfl

/-- The input buffer holds the point's update when the body is called. -/
theorem scatBefore_0 (c : Dev nD) (t : Fin (cfg1 a).N) (d) : (scatDat a V c).before 0 t d = updIn a V c t :=
  ((scatDat a V c).before_in_eq_fetched 0 rfl (fun _ => rfl) (fun _ _ _ => rfl) (fun t => by rw [scatAfter_0]; unfold Dat.blockOf updIn; rw [scatDat_A]; try rfl) t d).trans
    (by unfold Dat.fetched Dat.blockOf updIn; rw [scatDat_A]; try rfl)

/-- Where a row goes on the output buffer holds what the point before left. -/
theorem scatBefore_1 (c : Dev nD) (t : Fin (cfg1 a).N) (h : ¬ newRow (grid1.coords t) a.1) (d) :
    (scatDat a V c).before 1 t d = rowAcc a V c (t.val - 1) (Nat.lt_of_le_of_lt (Nat.sub_le _ _) t.isLt) := by
  have ht : t.val < 16384 := Nat.lt_of_lt_of_eq t.isLt N_1
  rw [newRow_iff, not_or, not_not] at h
  have hfl : (win1 a 1).flush ⟨t.val - 1, Nat.lt_of_le_of_lt (Nat.sub_le _ _) t.isLt⟩ = false :=
    flush1_out_false a ⟨t.val - 1, Nat.lt_of_le_of_lt (Nat.sub_le _ _) t.isLt⟩ (by dsimp only; omega)
      (by dsimp only; rw [Nat.sub_add_cancel (Nat.one_le_iff_ne_zero.mpr h.1)]; exact h.2)
  exact (Dat.before_out_kept (scatDat a V c) 1 rfl t h.1 hfl (fun i => idle1_out a i) (fun _ _ => rfl) d).trans (scatAfter_1 a V c _)

/-- The body as the pipeline calls it at point `t`. -/
abbrev bodyAt1 (t : Fin (cfg1 a).N) : Prog (TpuEff nD τ sig (Elt F) Λ₀ .tc) PUnit :=
  cc1__scatter_kernel (grid1.coords t) (Memref.whole main_v5) (Memref.isWhole_whole _) (spec1_0.stage ((cfg1 a).slots t 0)) (hstage1_0 (((cfg1 a).slots t 0).cast nbuf1_0))
    (Memref.whole main_v15) (Memref.isWhole_whole _) (spec1_1.stage ((cfg1 a).slots t 1)) (hstage1_1 (((cfg1 a).slots t 1).cast nbuf1_1))

set_option maxHeartbeats 1600000 in
/-- The body at any point, from the staging buffers before it to the staging buffers after it. -/
theorem scat_body (c : Dev nD) (t : Fin (cfg1 a).N) :
    (iprop((scatDat a V c).Φ t.castSucc ∗ (scatDat a V c).owesAt () t.castSucc
    ∗ (∃ d, owns (c : Thread nD τ) (spec1_0.stage ((cfg1 a).slots t 0)) fullShare ((scatDat a V c).before 0 t d))
    ∗ (∃ d, owns (c : Thread nD τ) (spec1_1.stage ((cfg1 a).slots t 1)) fullShare ((scatDat a V c).before 1 t d))) : sProp 𝕄)
    ⊢ wp frame (wpE (defs₀ (F := F)) Variants.none c none) Set.univ (bodyAt1 a t) (fun _ => iprop((scatDat a V c).Φ t.succ ∗ (scatDat a V c).owesAt () t.succ
    ∗ owns (c : Thread nD τ) (spec1_0.stage ((cfg1 a).slots t 0)) fullShare ((scatDat a V c).after 0 t)
    ∗ owns (c : Thread nD τ) (spec1_1.stage ((cfg1 a).slots t 1)) fullShare ((scatDat a V c).after 1 t))) := by
  unfold bodyAt1
  simp only [scatBefore_0]
  rw [show (scatDat a V c).Φ t.succ = iprop(Pipeline.ΦA spec1 c ∗ (((c : Thread nD τ).loc main_v5) ↦{fullShare} a.1 0)) from rfl,
    show (scatDat a V c).Φ t.castSucc = iprop(Pipeline.ΦA spec1 c ∗ (((c : Thread nD τ).loc main_v5) ↦{fullShare} a.1 0)) from rfl,
    show (scatDat a V c).owesAt () t.succ = (scatDat a V c).owesAt () t.castSucc from rfl, scatAfter_0, scatAfter_1]
  by_cases h : newRow (grid1.coords t) a.1
  · rw [rowAcc_new a V c t h]
    iintro ⟨⟨HΦ, Ht⟩, Ho, ⟨%d0, H0⟩, ⟨%d1, H1⟩⟩
    iapply (scatter_first c (grid1.coords t) _ _ _ _ _ _ a.1 h (fun h2 => (sameRow_iff _ _).mp h2 h) (updIn a V c t) Set.univ _)
    isplitl [Ht]; · iexact Ht
    isplitl [H0]; · iexact H0
    isplitl [H1]; · iexists _; iexact H1
    iintro ⟨Ht, H0, H1⟩
    isplitl [HΦ Ht]
    · isplitl [HΦ]; · iexact HΦ
      iexact Ht
    isplitl [Ho]; · iexact Ho
    isplitl [H0]; · iexact H0
    iexact H1
  · rw [rowAcc_same a V c t h]
    simp only [scatBefore_1 a V c t h]
    iintro ⟨⟨HΦ, Ht⟩, Ho, ⟨%d0, H0⟩, ⟨%d1, H1⟩⟩
    iapply (scatter_later c (grid1.coords t) _ _ _ _ _ _ a.1 h ((sameRow_iff _ _).mpr h) (updIn a V c t) _ Set.univ _)
    isplitl [Ht]; · iexact Ht
    isplitl [H0]; · iexact H0
    isplitl [H1]; · iexact H1
    iintro ⟨Ht, H0, H1⟩
    isplitl [HΦ Ht]
    · isplitl [HΦ]; · iexact HΦ
      iexact Ht
    isplitl [Ho]; · iexact Ho
    isplitl [H0]; · iexact H0
    iexact H1

/-- The pipeline calls the body at point `t`'s buffers. -/
theorem scat_row (t : Fin (cfg1 a).N) : defs₀ (F := F) .tc (cfg1 a).body ((cfg1 a).bodyArgs t ((cfg1 a).slots t)) = bodyAt1 a t := by
  unfold defs₀; rw [Defs.onTc_tc]

/-- The body obligation of the scatter pipeline. -/
theorem scat_obligation (c : Dev nD) : BodyObligation (scatDat (F := F) a V c) (defs₀ (F := F)) Variants.none () Set.univ := fun t => by
  rw [bigSep_W1, bigSep_W1, scat_row]
  refine triple_restated (scat_body a V c t) rfl .rfl fun _ => sep_mono .rfl (sep_mono .rfl (sep_mono .rfl ?_))
  have hid := idle1_out a ((cfg1 a).grid.coords t)
  dsimp only
  split
  · rename_i h
    exact absurd (h.symm.trans hid) (by decide)
  · exact .rfl

end Cert.KernelIdeal.Run

end
-- ==== Proof.KernelIdeal.Run.lean ====
/-
  The run of `main` at the compiled mesh: the buffers' contents between its items, the two pipelines as segments over
  them, and the theorem that every weakly fair execution ends with every unscoped buffer at the last contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.ProjData
public import proofs.«01_k».proof.Proof.KernelIdeal.ScatterData
public import proofs.«01_k».proof.Proof.Gen.KernelIdeal.Regions
public import Idealize.ShloMosaic.Lib.Pipeline.RegionsLoop
public import Idealize.ShloMosaic.Lib.Pipeline.FrameSuffix
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

open Idealize.ShloMosaic.Pipeline (Dat BodyObligation Seg RegionSeg)

variable (m : (ℓ : Loc nD τ sig) → Buf (Elt F) ℓ)

/-! ## The contents between the items -/

/-- The buffers when the projection pipeline is entered, read at the TensorCore's references. -/
abbrev B1 : (c : Dev nD) → (b : Ref sig .tc) → Buf (Elt F) ((c : Thread nD τ).loc b) := fun c b => V1 m c b
/-- The buffers when the projection pipeline is left: its arrays at what its write-backs leave, the rest as entered. -/
def X2 (c : Dev nD) : Valuation τ sig (Elt F) :=
  Pipeline.withArrays spec0 c (V1 m c) fun w => (projDat (B1 m) c).arrAt w cfg0.N
/-- The first pipeline's results, as the family the boundary contents are written over. -/
def outs2 : Outs (F := F) := fun _ r c => X2 m c r
/-- The buffers when the scatter pipeline is entered. -/
abbrev B6 : (c : Dev nD) → (b : Ref sig .tc) → Buf (Elt F) ((c : Thread nD τ).loc b) := fun c b => V6 m (outs2 m) c b
/-- The sorted table the scatter pipeline's index map reads. -/
def tab : pre1.Contents (Elt F) := fun k => V6 m (outs2 m) (0 : Dev nD) (pre1.ref k)
/-- The table the scatter pipeline is entered with is the sorted one, on every core. -/
theorem tab_eq (c : Dev nD) : (fun k => V6 m (outs2 m) c (pre1.ref k)) = tab m := by
  obtain rfl : c = 0 := Subsingleton.elim _ _
  rfl
/-- The table holds the sort of the node ids. -/
theorem tab_sort : tab m 0 = Host.sort S16384 0 comparator_i32_d0 (m (((0 : Dev nD) : Thread nD τ).loc main_arg2)) := by
  show V6 m (outs2 m) (0 : Dev nD) main_v5 = _
  rw [V6_of m (outs2 m) 0 main_v5 (by decide), V5_of m (outs2 m) 0 main_v5 (by decide)]
  show StableHlo.after hostOps1_1 (V3 m (outs2 m) 0) main_v5 = _
  rw [show StableHlo.after hostOps1_1 (V3 m (outs2 m) 0) main_v5 = Host.sort S16384 0 comparator_i32_d0 (V3 m (outs2 m) 0 main_arg2) from by
    after_results
    rfl]
  rw [V3_of m (outs2 m) 0 main_arg2 (by decide), V2_of m (outs2 m) 0 main_arg2 (by decide), V1_of m 0 main_arg2 (by decide)]

variable (hok : ok1 (tab m))

/-- The prefetched tables' contents: none for the projection pipeline, the sorted ids for the scatter pipeline. -/
def adm : (p : Fin 2) → (pcfgs (F := F) p).Adm
  | ⟨0, _⟩ => cfg0.toPCfg_adm
  | ⟨1, _⟩ => ⟨tab m, hok⟩
/-- The scatter pipeline's table with its admissibility. -/
abbrev tabA : (pcfg1 (F := F)).Adm := ⟨tab m, hok⟩

/-- The buffers when the scatter pipeline is left. -/
def X7 (c : Dev nD) : Valuation τ sig (Elt F) :=
  Pipeline.withArrays spec1 c (V6 m (outs2 m) c) fun w => (scatDat (tabA m hok) (B6 m) c).arrAt w (cfg1 (tabA m hok)).N
/-- What each pipeline leaves in the buffers it may change. -/
def left : Outs (F := F) := fun n r c => match n with
  | 2 => X2 m c r
  | _ => X7 m hok c r

/-- The boundary contents up to the scatter pipeline do not depend on what it leaves. -/
theorem V2_outs (c : Dev nD) : V2 m (left m hok) c = V2 m (outs2 m) c := rfl
theorem V6_outs (c : Dev nD) : V6 m (left m hok) c = V6 m (outs2 m) c := rfl

/-- Every pipeline's proof data, each at its entry contents. -/
def pdats : (p : Fin 2) → (c : Dev nD) → Dat τ (Elt F) Unit ℕ (UR sig nD τ) ℕ (Pipeline.pin (pcfgs (F := F)) (adm m hok) p) c
  | ⟨0, _⟩ => fun c => projDat (B1 m) c
  | ⟨1, _⟩ => fun c => scatDat (tabA m hok) (B6 m) c

/-- The buffers after the projection pipeline, at the TensorCore's references. -/
abbrev B2 : (c : Dev nD) → (b : Ref sig .tc) → Buf (Elt F) ((c : Thread nD τ).loc b) := fun c b => V2 m (left m hok) c b
/-- The buffers after the scatter pipeline, at the TensorCore's references. -/
abbrev B7 : (c : Dev nD) → (b : Ref sig .tc) → Buf (Elt F) ((c : Thread nD τ).loc b) := fun c b => V7 m (left m hok) c b

theorem B2_v3_0 (c : Dev nD) : B2 m hok c main_v3_0 = (projDat (B1 m) c).arrAt 7 cfg0.N := by
  show Function.update (Function.update (V1 m c) main_v3_0 (X2 m c main_v3_0)) main_v3_1 (X2 m c main_v3_1) (main_v3_0 : DevRef τ sig) = _
  rw [Function.update_of_ne (by decide), Function.update_self]
  unfold X2
  exact Pipeline.withArrays_arr spec0 (launch0 (F := F)).win.arr_inj c _ _ 7
theorem B2_v3_1 (c : Dev nD) : B2 m hok c main_v3_1 = (projDat (B1 m) c).arrAt 8 cfg0.N := by
  show Function.update (Function.update (V1 m c) main_v3_0 (X2 m c main_v3_0)) main_v3_1 (X2 m c main_v3_1) (main_v3_1 : DevRef τ sig) = _
  rw [Function.update_self]
  unfold X2
  exact Pipeline.withArrays_arr spec0 (launch0 (F := F)).win.arr_inj c _ _ 8
theorem B7_v16 (c : Dev nD) : B7 m hok c main_v16 = (scatDat (tabA m hok) (B6 m) c).arrAt 1 (cfg1 (tabA m hok)).N := by
  show Function.update (Function.update (V6 m (left m hok) c) main_v16 (X7 m hok c main_v16)) main_v15 (X7 m hok c main_v15) (main_v16 : DevRef τ sig) = _
  rw [Function.update_of_ne (by decide), Function.update_self]
  unfold X7
  exact Pipeline.withArrays_arr spec1 (launch1 (F := F)).win.arr_inj c _ _ 1
theorem B7_v15 (c : Dev nD) : B7 m hok c main_v15 = B6 m c main_v15 := by
  show Function.update (Function.update (V6 m (left m hok) c) main_v16 (X7 m hok c main_v16)) main_v15 (X7 m hok c main_v15) (main_v15 : DevRef τ sig) = _
  rw [Function.update_self]
  unfold X7
  exact Pipeline.withArrays_of_ne spec1 c _ _ main_v15 (by decide)

/-- An array the projection pipeline only reads keeps its contents. -/
theorem proj_in (c : Dev nD) (w : Fin cfg0.W) (hin : (cfg0.win w).isOut = false) (h : Pipeline.arrRef spec0 w ∉ ([main_v3_0, main_v3_1] : List (Ref sig .tc))) :
    (projDat (B1 m) c).arrAt w cfg0.N = B2 m hok c (Pipeline.arrRef spec0 w) :=
  (((projDat (B1 m) c).arrAt_in w hin _).trans (projDat_A (B1 m) c w)).trans (V2_of m (left m hok) c _ h).symm

/-- At its exit each of the projection pipeline's arrays holds what the boundary contents say. -/
theorem proj_arr (c : Dev nD) : ∀ w : Fin cfg0.W, (projDat (B1 m) c).arrAt w cfg0.N = B2 m hok c (Pipeline.arrRef spec0 w)
  | ⟨0, _⟩ => proj_in m hok c 0 rfl (by decide)
  | ⟨1, _⟩ => proj_in m hok c 1 rfl (by decide)
  | ⟨2, _⟩ => proj_in m hok c 2 rfl (by decide)
  | ⟨3, _⟩ => proj_in m hok c 3 rfl (by decide)
  | ⟨4, _⟩ => proj_in m hok c 4 rfl (by decide)
  | ⟨5, _⟩ => proj_in m hok c 5 rfl (by decide)
  | ⟨6, _⟩ => proj_in m hok c 6 rfl (by decide)
  | ⟨7, _⟩ => (B2_v3_0 m hok c).symm
  | ⟨8, _⟩ => (B2_v3_1 m hok c).symm
theorem proj_rest (c : Dev nD) : ∀ b, b ∉ Finset.univ.image (Pipeline.arrRef spec0) → B2 m hok c b = B1 m c b := fun b hb =>
  V2_of m (left m hok) c b fun hm => hb (by
    rcases List.mem_cons.mp hm with rfl | hm
    · exact Finset.mem_image.mpr ⟨7, Finset.mem_univ _, rfl⟩
    · rcases List.mem_cons.mp hm with rfl | hm
      · exact Finset.mem_image.mpr ⟨8, Finset.mem_univ _, rfl⟩
      · exact absurd hm List.not_mem_nil)

/-- At its exit each of the scatter pipeline's arrays holds what the boundary contents say. -/
theorem scat_arr (c : Dev nD) : ∀ w : Fin (cfg1 (tabA m hok)).W, (scatDat (tabA m hok) (B6 m) c).arrAt w (cfg1 (tabA m hok)).N = B7 m hok c (Pipeline.arrRef spec1 w)
  | ⟨0, _⟩ => (((scatDat (tabA m hok) (B6 m) c).arrAt_in 0 rfl _).trans (scatDat_A (tabA m hok) (B6 m) c 0)).trans (V7_of m (left m hok) c main_v14 (by decide)).symm
  | ⟨1, _⟩ => (B7_v16 m hok c).symm
theorem scat_rest (c : Dev nD) : ∀ b, b ∉ Finset.univ.image (Pipeline.arrRef spec1) → B7 m hok c b = B6 m c b := fun b hb => by
  by_cases h : b = main_v15
  · subst h; exact B7_v15 m hok c
  · exact V7_of m (left m hok) c b fun hm => hb (by
      rcases List.mem_cons.mp hm with rfl | hm
      · exact Finset.mem_image.mpr ⟨1, Finset.mem_univ _, rfl⟩
      · exact absurd (List.mem_singleton.mp hm) h)

/-! ## The pipelines as segments -/

/-- No core owes another anything: no level is assigned. -/
abbrev L : GSem nD τ sig → Finset Unit := fun _ => ∅
abbrev lv : GSem nD τ sig → Unit → ℕ := fun _ _ => 0
/-- What rides beside the buffers through every segment: the core's generator register, and its dues at nothing. -/
abbrev R (c : Dev nD) : sProp 𝕄 := iprop((∃ r, prngReg c r) ∗ ∃ W, owes (c : Thread nD τ) (0 : CellTallies nD τ sig Unit) W)
/-- The table, held whole. -/
abbrev tableHeld (c : Dev nD) : sProp 𝕄 := (((c : Thread nD τ).loc main_v5) ↦{fullShare} tab m 0)

/-- The prefetched table as the pipeline holds it is the table held whole. -/
theorem prefHeld_tab (c : Dev nD) :
    (Pipeline.prefHeld pre1 c (fun _ => fullShare) (tab m) : sProp 𝕄) = tableHeld m c := by
  unfold Pipeline.prefHeld
  rw [show (Finset.univ : Finset (Fin pre1.K)) = {0} from rfl, BI.bigSep_singleton]
  rfl

set_option backward.isDefEq.respectTransparency.types false in
/-- The projection pipeline over the thread state. -/
def reg0 : RegionSeg (pcfgs (F := F)) (adm m hok) (pdats m hok) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (proj_obligation (B1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (left m hok) c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (B1 m c) (projDat_A (B1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hok 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hok) (Ix := Unit) (Name := ℕ) (U := UR sig nD τ) (Lvl := ℕ)
      (launch0 (F := F)).win (launch0 (F := F)).arr_whole c (pdats m hok) ((pdats m hok 0 c).share_full fun _ => rfl)
      (B1 m c) (B2 m hok c) ((pdats m hok 0 c).arrAt · cfg0.N) (proj_arr m hok c) (proj_rest m hok c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter pipeline over the thread state: the sorted table enters its invariant and comes back with the
    generator register. -/
def reg1 : RegionSeg (pcfgs (F := F)) (adm m hok) (pdats m hok) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := (scat_obligation (tabA m hok) (B6 m) c).loose
  hwaits := Pipeline.hwaits_of_owed_zero _ _ _ _ L lv 1 fun _ _ => rfl
  pre c := iprop(StableHlo.held (c : Thread nD τ) (Pipeline.ucRefs τ sig) (V6 m (left m hok) c) ∗ R c)
  post c := iprop(StableHlo.held (c : Thread nD τ) (Pipeline.ucRefs τ sig) (V7 m (left m hok) c) ∗ R c)
  X c := iprop(∃ r, prngReg c r)
  Y c := iprop((∃ r, prngReg c r) ∗ tableHeld m c)
  Z c := Pipeline.unscopedRestP (Ix := Unit) (Name := ℕ) (U := UR sig nD τ) (Lvl := ℕ) pre1 spec1 c (B6 m c)
  hentry c := by
    rw [Pipeline.ownSems0_none]
    have hsplit := Pipeline.arrays_of_unscopedBufs (p := 1) (pcfgs (F := F)) (adm m hok) (pdats m hok) (launch1 (F := F)).win (launch1 (F := F)).arr_whole c
      ((pdats m hok 1 c).share_full fun _ => rfl) (B6 m c) (scatDat_A (tabA m hok) (B6 m) c)
    have hur := Pipeline.unscopedRest_split (Ix := Unit) (Name := ℕ) (U := UR sig nD τ) (Lvl := ℕ) preFacts1 c (B6 m c)
    rw [Pipeline.unscopedBufs_held, ← V6_outs m hok c] at hsplit
    rw [show (fun k => B6 m c (pre1.ref k)) = tab m from tab_eq m c] at hur
    iintro ⟨⟨Hub, Hp, HO⟩, -, -⟩
    ihave H := hsplit $$ Hub
    icases H with ⟨Ha, Hrest⟩
    ihave H2 := (show Pipeline.unscopedRest spec1 c (B6 m c) ⊢ iprop(Pipeline.prefHeld pre1 c (fun _ => fullShare) (tab m) ∗ Pipeline.unscopedRestP pre1 spec1 c (B6 m c)) from hur ▸ .rfl) $$ Hrest
    icases H2 with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok 1 c).Φ 0 = iprop(Pipeline.ΦA spec1 c ∗ tableHeld m c) from rfl,
      show Pipeline.prefHeld (pcfgs (F := F) 1).pre c (fun _ => fullShare) (adm m hok 1).1 = tableHeld m c from prefHeld_tab m c]; unfold Pipeline.ΦA
    iintro ⟨Hp, Ht, Hr⟩
    isplitr [Ht]
    · isplitl [Hr]; · iexact Hr
      iexact Hp
    iexact Ht
  hout c := by
    rw [Pipeline.ownSems0_none, show (pdats m hok 1 c).Φ (Fin.last _) = iprop(Pipeline.ΦA spec1 c ∗ tableHeld m c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hok) (Ix := Unit) (Name := ℕ) (U := UR sig nD τ) (Lvl := ℕ)
      (launch1 (F := F)).win (launch1 (F := F)).arr_whole c (pdats m hok) ((pdats m hok 1 c).share_full fun _ => rfl)
      (B6 m c) (B7 m hok c) ((pdats m hok 1 c).arrAt · (cfg1 (tabA m hok)).N) (scat_arr m hok c) (scat_rest m hok c)
    rw [Pipeline.unscopedBufs_held] at hjoin
    have hur := Pipeline.unscopedRest_split (Ix := Unit) (Name := ℕ) (U := UR sig nD τ) (Lvl := ℕ) preFacts1 c (B6 m c)
    rw [show (fun k => B6 m c (pre1.ref k)) = tab m from tab_eq m c, prefHeld_tab] at hur
    iintro ⟨Ha, HO, ⟨HY, Ht⟩, Hrest⟩
    imodintro
    isplitl [Ha Ht Hrest]
    · iapply hjoin
      isplitl [Ha]; · iexact Ha
      iapply (show iprop(tableHeld m c ∗ Pipeline.unscopedRestP pre1 spec1 c (B6 m c)) ⊢ Pipeline.unscopedRest spec1 c (B6 m c) from hur ▸ .rfl)
      isplitl [Ht] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: from any memory with zero counters whose sorted ids index the output, every weakly fair execution of `main`
    ends, nothing faulting, with every unscoped buffer at the last boundary's contents and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = V8 m (left m hok) c b) ∧ r.2.sem = fun _ => 0) := by
  refine Pipeline.θ_run_regions_kit_dev_sems (pcfgs (F := F)) (adm m hok) (pdats m hok) () (cellOf_inj (adm m hok)) emb₁ defs₀ Variants.none L lv m ρ main
    (segs m (left m hok) Variants.none L lv (fun _ => R) () (adm m hok) (pdats m hok) (reg0 m hok) (reg1 m hok))
    (fun c Q => by
      rewrite [main_chain c, Seg.run_eq_chain,
        show (segs m (left m hok) Variants.none L lv (fun _ => R) () (adm m hok) (pdats m hok) (reg0 m hok) (reg1 m hok) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (V8 m (left m hok) c))
    (hch := fun c => ⟨.rfl, .rfl, .rfl, .rfl, .rfl, .rfl, .rfl, .rfl, sep_mono .rfl (by iintro ⟨-, H⟩; iexact H)⟩)
    (hinit := ?_) (QY := fun c s => ∀ b ∈ Pipeline.ucRefs τ sig, s.mem (c, b) = V8 m (left m hok) c b)
    (hfin := fun c s' => ?_) (hQ := fun _ h hz => ⟨h, funext fun g => hz g (.inr (regions_no_unscoped g.2))⟩)
  · iintro Hu; imodintro
    isplitl [Hu]
    · iapply (show (ownU (initOf (Pipeline.cells (Pipeline.pin (pcfgs (F := F)) (adm m hok)) (cellOf_inj (adm m hok))) (Pipeline.launchToks (Pipeline.pin (pcfgs (F := F)) (adm m hok)) (cellOf_inj (adm m hok)))) : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (V8 m (left m hok) c) s')
    isplitl [Hh] <;> iassumption

include hok in
/-- The frame: every argument ends as launched and every counter at zero. -/
theorem unchanged (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
    ⟨(h.1 c _ (mem_uc main_arg0 (by decide))).trans (V8_main_arg0 m (left m hok) c),
     (h.1 c _ (mem_uc main_arg1 (by decide))).trans (V8_main_arg1 m (left m hok) c),
     (h.1 c _ (mem_uc main_arg2 (by decide))).trans (V8_main_arg2 m (left m hok) c),
     (h.1 c _ (mem_uc main_arg3 (by decide))).trans (V8_main_arg3 m (left m hok) c),
     (h.1 c _ (mem_uc main_arg4 (by decide))).trans (V8_main_arg4 m (left m hok) c),
     (h.1 c _ (mem_uc main_arg5 (by decide))).trans (V8_main_arg5 m (left m hok) c),
     (h.1 c _ (mem_uc main_arg6 (by decide))).trans (V8_main_arg6 m (left m hok) c),
     (h.1 c _ (mem_uc main_arg7 (by decide))).trans (V8_main_arg7 m (left m hok) c),
     (h.1 c _ (mem_uc main_arg8 (by decide))).trans (V8_main_arg8 m (left m hok) c),
     (h.1 c _ (mem_uc main_arg9 (by decide))).trans (V8_main_arg9 m (left m hok) c)⟩, h.2⟩) (run m hok ρ)

end Cert.KernelIdeal.Run

end
-- ==== Proof.KernelIdeal.TableOk.lean ====
/-
  The sorted table names rows of the entity memory only, so that every block the scatter pipeline writes lies inside it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Table
public import proofs.«01_k».proof.Proof.KernelIdeal.Run
public import proofs.«01_k».proof.Proof.Order
public import Idealize.ShloMosaic.Adequacy
public import Idealize.ShloMosaic.Init
public import Idealize.ShloMosaic.Lib.Tactic
public import Idealize.ShloMosaic.Lib.Exec
public import Idealize.ShloMosaic.Lib.VecWindow

@[expose] public section

set_option maxRecDepth 16384
set_option synthInstance.maxSize 4096

noncomputable section

namespace Cert.KernelIdeal.Run

open Cert.KernelIdeal Cert.KernelIdeal.Gen
open Idealize.ShloMosaic Idealize.ShloMosaic.TcCoe
open Idealize.SL Idealize.SL.RA Idealize.SL.Sem
open Idealize.SL.BI (sProp bigSep)
open scoped Idealize.SL.BI Idealize.SL.BI.BIBase
open Idealize.SL.BI.BIBase Idealize.SL.BI.Laws
open Idealize.SL.ProofMode
open Idealize.ShloMosaic.Rounds

variable {F : FTy → Type} [FloatOps F]

local notation "𝕄" => MT nD τ sig Unit (Elt F) ℕ (UR sig nD τ) ℕ

/-- A table's word at a position inside it is its element there. -/
theorem sid_eq (T : pre1.Contents (Elt F)) (n : Fin 16384) : sid T n.val = T 0 (Shape.Idx.ofFin n) := by
  have hn := n.isLt
  have h : ∀ a, (![n.val] : Fin 1 → ℕ) a + 1 ≤ (pre1.ref 0).ty.shape.size a := fun a => by
    fin_cases a
    exact hn
  refine (dif_pos h).trans ?_
  refine congrArg (T 0) (funext fun a => Fin.ext ?_)
  fin_cases a
  rfl

variable (m : (ℓ : Loc nD τ sig) → Buf (Elt F) ℓ)

/-- The node ids as launched. -/
abbrev nodeIds : Cert.Order.Words := m (((0 : Dev nD) : Thread nD τ).loc main_arg2)

/-- The table's word at a position is the id that comes there in order. -/
theorem sid_tab (n : Fin 16384) : sid (tab m) n.val = Cert.Order.sorted (nodeIds m) n := by
  rw [sid_eq, tab_sort]
  exact Cert.Order.sort_eq (nodeIds m) comparator_i32_d0 rfl _

/-- Where every id is a row of the entity memory, so is every word of the table: the pipeline's side condition holds. -/
theorem ok1_of_range (h : ∀ j, (nodeIds m j).toNat < 1000000) : ok1 (tab m) := by
  intro i
  have hs : (sid (tab m) (i 0).val).toNat < 1000000 := by
    rw [sid_tab m ⟨(i 0).val, coord1_lt i⟩]
    exact h _
  refine ⟨fun a => ?_, Or.inl rfl⟩
  rw [outIx_eq]
  fin_cases a
  · show ((sid (tab m) (i 0).val).toNat + 1) * 1 ≤ 1000000
    omega
  · show (0 + 1) * 1 ≤ 1
    omega
  · show (0 + 1) * 64 ≤ 64
    omega

end Cert.KernelIdeal.Run

end
-- ==== Proof.Frames.lean ====
/-
  The claims without values: every run of each program ends, its arguments unchanged and every semaphore counter at zero.
-/
module

public import proofs.«01_k».proof.Defs
public import proofs.«01_k».proof.Proof.Pre
public import proofs.«01_k».proof.Proof.Ref
public import proofs.«01_k».proof.Proof.Kernel.TableOk
public import proofs.«01_k».proof.Proof.KernelIdeal.TableOk

@[expose] public section

set_option maxRecDepth 16384
set_option synthInstance.maxSize 4096

namespace Cert.Frames

open Idealize.ShloMosaic Idealize.SL.Sem

/-- The kernel's run, its ids in range. -/
theorem kernel : Cert.quiescent_Kernel (hKernel := Cert.Kernel.Gen.facts) (hPre_ids_in_range := Cert.Pre.idsFacts) := fun m g hpre =>
  Cert.Kernel.Run.unchanged m (Cert.Kernel.Run.ok1_of_range m (Cert.Pre.ids_node _ _ _ _ _ _ _ _ _ _ (hpre 0).1)) g

/-- The idealized kernel's run, its ids in range. -/
theorem kernelIdeal : Cert.quiescent_KernelIdeal (hKernelIdeal := Cert.KernelIdeal.Gen.facts) (hPre_ids_in_range := Cert.Pre.idsFacts) :=
  fun m g hpre =>
    Cert.KernelIdeal.Run.unchanged m (Cert.KernelIdeal.Run.ok1_of_range m (Cert.Pre.ids_node _ _ _ _ _ _ _ _ _ _ (hpre 0).1)) g

/-- The same from zero memories. -/
theorem kernelIdeal_fresh :
    Cert.quiescent_KernelIdeal_pre_fresh_memories (hKernelIdeal := Cert.KernelIdeal.Gen.facts) (hPre_fresh_memories := Cert.Pre.freshFacts) :=
  fun m g hpre =>
    Cert.KernelIdeal.Run.unchanged m (Cert.KernelIdeal.Run.ok1_of_range m (Cert.Pre.fresh_node _ _ _ _ _ _ _ _ _ _ (hpre 0).1)) g

/-- The reference's run: it has no semaphore. -/
theorem reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- The same from zero memories. -/
theorem reference_fresh :
    Cert.quiescent_ReferenceIdeal_pre_fresh_memories (hReferenceIdeal := Cert.ReferenceIdeal.Gen.facts) (hPre_fresh_memories := Cert.Pre.freshFacts) :=
  fun m g _ => reference m g trivial

end Cert.Frames
-- ==== Proof.Spec.lean ====
/-
  What the update computes, as plain sums: a projected embedding, and the sum of the projections that an id names.
-/
module

public import Idealize.ShloMosaic.Lib.ValueIdxCore
public import Idealize.ShloMosaic.Lib.IdealHost
public import proofs.«01_k».proof.Proof.Order

@[expose] public section

set_option maxRecDepth 16384

noncomputable section

namespace Cert.Spec

open Idealize.ShloMosaic Idealize.ShloMosaic.ValueIdx

/-- Row `i`, column `d` of the embeddings `x` times the transposed weights `w`, plus the bias `b`. -/
def proj (x : (⟨2, ![16384, 128]⟩ : Shape).Idx → EReal) (w : (⟨2, ![64, 128]⟩ : Shape).Idx → EReal)
    (b : (⟨1, ![64]⟩ : Shape).Idx → EReal) (i : Fin 16384) (d : Fin 64) : EReal :=
  (∑ k : Fin 128, x (ix2 i k) * w (ix2 d k)) + b (ix1 d)

/-- The sum of the values `u i` over the positions `i` whose id is `r`. -/
def rowSum (ids : Cert.Order.Words) (u : Fin 16384 → EReal) (r : ℕ) : EReal :=
  ∑ i : Fin 16384, if (ids (Shape.Idx.ofFin i)).toNat = r then u i else 0

end Cert.Spec

end
-- ==== Proof.RefValue.lean ====
/-
  The reference's two results at an element: the entry that was there plus the sum of the projections whose id is the row.
-/
module

public import proofs.«01_k».proof.Proof.Ref
public import proofs.«01_k».proof.Proof.Spec
public import Idealize.ShloMosaic.Lib.Routing.OpsPair
public import Idealize.ShloMosaic.PureOps.Ideal.Laws

@[expose] public section

set_option maxRecDepth 16384
set_option synthInstance.maxSize 4096

noncomputable section

namespace Cert.ReferenceIdeal.Value

open Cert.ReferenceIdeal Cert.ReferenceIdeal.Facts₀
open Idealize.ShloMosaic Idealize.ShloMosaic.ValueIdx Idealize.ShloMosaic.Routing

/-- The product of the embeddings and the transposed weights. -/
abbrev D := dot_S16384x128_S128x64_S16384x64_1_0_0_1_n_n

theorem D_rank : D.contr.rank = 1 := rfl
theorem D_size : D.contr.size ⟨0, by rw [D_rank]; exact Nat.one_pos⟩ = 128 := rfl

theorem lhs_row (j : S16384x64.Idx) (k : D.contr.Idx) : (D.lhsIdx j k 0 : ℕ) = j 0 := by
  simp [DotDims.lhsIdx, D, dot_S16384x128_S128x64_S16384x64_1_0_0_1_n_n]; rfl
theorem lhs_col (j : S16384x64.Idx) (k : D.contr.Idx) : (D.lhsIdx j k 1 : ℕ) = k ⟨0, by decide⟩ := by
  simp [DotDims.lhsIdx, D, dot_S16384x128_S128x64_S16384x64_1_0_0_1_n_n]; rfl
theorem rhs_row (j : S16384x64.Idx) (k : D.contr.Idx) : (D.rhsIdx j k 0 : ℕ) = k ⟨0, by decide⟩ := by
  simp [DotDims.rhsIdx, D, dot_S16384x128_S128x64_S16384x64_1_0_0_1_n_n]; rfl
theorem rhs_col (j : S16384x64.Idx) (k : D.contr.Idx) : (D.rhsIdx j k 1 : ℕ) = j 1 := by
  simp [DotDims.rhsIdx, D, dot_S16384x128_S128x64_S16384x64_1_0_0_1_n_n]; rfl

/-- An extended real divided by the word of one is itself. -/
theorem div_one (x : EReal) : Ideal.div x (Ideal.ofBits .f32 0x3F800000#32) = x := by
  rw [Ideal.ofBits_one_f32]
  unfold Ideal.div
  rw [if_neg one_ne_zero, inv_one, mul_one]

/-- The transposed weights at an element. -/
theorem transpose_at (w : FVec Ideal S64x128 .f32) (k : Fin 128) (d : Fin 64) :
    transpose S128x64 [1, 0] w transposes_S64x128_S128x64_1_0 (ix2 k d) = w (ix2 d k) := by
  refine congrArg w (funext fun a => ?_)
  match a with
  | ⟨0, _⟩ => rfl
  | ⟨1, _⟩ => rfl

/-- An update at an element is the projection. -/
theorem updates_at (x : FVec Ideal S16384x128 .f32) (w : FVec Ideal S64x128 .f32) (b : FVec Ideal S64 .f32) (i : Fin 16384) (d : Fin 64) :
    updates x w b (ix2 i d) = Cert.Spec.proj x w b i d := by
  refine (div_one _).trans ?_
  show (_ : EReal) + _ = _ + _
  refine congrArg₂ (· + ·) ?_ ?_
  · refine ((Ideal.dotGeneral_apply D none .single x _ (ix2 i d)).trans
      (Equiv.sum_comp (contrEquiv1 D 128 D_rank D_size).symm _).symm).trans ?_
    refine Finset.sum_congr rfl fun k _ => ?_
    have hl : D.lhsIdx (ix2 i d) ((contrEquiv1 D 128 D_rank D_size).symm k) = ix2 i k := by
      funext a
      match a with
      | ⟨0, _⟩ => exact Fin.ext (lhs_row _ _)
      | ⟨1, _⟩ => exact Fin.ext ((lhs_col _ _).trans (contrEquiv1_symm_val D 128 D_rank D_size k))
    have hr : D.rhsIdx (ix2 i d) ((contrEquiv1 D 128 D_rank D_size).symm k) = ix2 k d := by
      funext a
      match a with
      | ⟨0, _⟩ => exact Fin.ext ((rhs_row _ _).trans (contrEquiv1_symm_val D 128 D_rank D_size k))
      | ⟨1, _⟩ => exact Fin.ext (rhs_col _ _)
    rw [hl, hr, transpose_at]
  · refine congrArg b (funext fun a => ?_)
    match a with
    | ⟨0, _⟩ => rfl

/-- A vector made a column, at an element. -/
theorem column_at {α : Type} (v : S16384.Idx → α) (i : Fin 16384) :
    broadcastInDim S16384x1 ![0] bcast_S16384_S16384x1_0 v (ix2 i 0) = v (Shape.Idx.ofFin i) := by
  refine congrArg v (funext fun a => ?_)
  match a with
  | ⟨0, _⟩ => rfl

/-- A wrapped id that holds a natural below half the range is the id. -/
theorem wrapped_at (n : BitVec 32) (ids : IVec S16384 32) (h : ∀ j, (ids j).toNat < 2 ^ 31) (i : Fin 16384) :
    wrapped n ids (ix2 i 0) = ids (Shape.Idx.ofFin i) :=
  (column_at _ i).trans (wrap_of_lt _ _ (h _))

/-- Where an update lands: in its id's row, in its own column. -/
theorem lands {N : ℕ} (s : ScatterDims (shape2 N 64) (shape2 16384 1) (shape2 16384 64)) (huw : s.updateWindowDims = [1])
    (hiw : s.insertedWindowDims = [0]) (hsd : s.scatterDimsToOperandDims = [0]) (hivd : s.indexVectorDim = 1)
    (idx : IVec (shape2 16384 1) 32) (i : Fin 16384) (d : Fin 64) (r : Fin N) (c : Fin 64) :
    s.resultIdx? (ix2 i d) idx = some (ix2 r c) ↔ (idx (ix2 i 0)).toInt = r.val ∧ d = c := by
  rw [resultIdx?_eq_some]
  have hs0 : s.start (ix2 i d) idx 0 = (idx (ix2 i 0)).toInt := by
    obtain ⟨uw, iw, sd, ivd, wf⟩ := s
    dsimp only at huw hiw hsd hivd
    subst huw hiw hsd hivd
    unfold ScatterDims.start
    rw [dif_pos (by simp)]
    refine congrArg (fun j => (idx j).toInt) (funext fun a => ?_)
    match a with
    | ⟨0, _⟩ => rfl
    | ⟨1, _⟩ => rfl
  have hs1 : s.start (ix2 i d) idx 1 = 0 := by
    unfold ScatterDims.start
    rw [dif_neg (by rw [hsd]; simp)]
  have hw0 : s.window (ix2 i d) 0 = 0 := by
    obtain ⟨uw, iw, sd, ivd, wf⟩ := s
    dsimp only at huw hiw hsd hivd
    subst huw hiw hsd hivd
    rfl
  have hw1 : s.window (ix2 i d) 1 = d.val := by
    obtain ⟨uw, iw, sd, ivd, wf⟩ := s
    dsimp only at huw hiw hsd hivd
    subst huw hiw hsd hivd
    rfl
  constructor
  · intro h
    have h0 := h 0
    have h1 := h 1
    rw [hs0, hw0] at h0
    rw [hs1, hw1] at h1
    have h0' : (idx (ix2 i 0)).toInt + ((0 : ℕ) : ℤ) = (r.val : ℤ) := h0
    have h1' : (0 : ℤ) + (d.val : ℤ) = (c.val : ℤ) := h1
    exact ⟨by omega, Fin.ext (by omega)⟩
  · rintro ⟨h0, rfl⟩ a
    match a with
    | ⟨0, _⟩ =>
      show s.start (ix2 i d) idx 0 + ((s.window (ix2 i d) 0 : ℕ) : ℤ) = _
      rw [hs0, hw0]
      show (idx (ix2 i 0)).toInt + ((0 : ℕ) : ℤ) = (r.val : ℤ)
      omega
    | ⟨1, _⟩ =>
      show s.start (ix2 i d) idx 1 + ((s.window (ix2 i d) 1 : ℕ) : ℤ) = _
      rw [hs1, hw1]
      show (0 : ℤ) + (d.val : ℤ) = (d.val : ℤ)
      omega

/-- A sum of updates by wrapped ids into a memory of zeros: each element is the sum of the projections its row's id names. -/
theorem scatter_at {N : ℕ} (s : ScatterDims (shape2 N 64) (shape2 16384 1) (shape2 16384 64)) (huw : s.updateWindowDims = [1])
    (hiw : s.insertedWindowDims = [0]) (hsd : s.scatterDimsToOperandDims = [0]) (hivd : s.indexVectorDim = 1)
    (mem : FVec Ideal (shape2 N 64) .f32) (hmem : ∀ j, mem j = (0 : EReal)) (n : BitVec 32) (ids : IVec S16384 32)
    (h : ∀ j, (ids j).toNat < 2 ^ 31) (x : FVec Ideal S16384x128 .f32) (w : FVec Ideal S64x128 .f32) (b : FVec Ideal S64 .f32)
    (r : Fin N) (c : Fin 64) :
    Host.scatterAdd s mem (wrapped n ids) (updates x w b) (ix2 r c)
      = Cert.Spec.rowSum ids (fun i => Cert.Spec.proj x w b i c) r.val := by
  show mem (ix2 r c) + ∑ j ∈ Finset.univ.filter (fun j => s.resultIdx? j (wrapped n ids) = some (ix2 r c)), updates x w b j = (_ : EReal)
  rw [hmem, zero_add, Finset.sum_filter, sum_idx2]
  unfold Cert.Spec.rowSum
  refine Finset.sum_congr rfl fun i _ => ?_
  have hl : ∀ d : Fin 64, s.resultIdx? (ix2 i d) (wrapped n ids) = some (ix2 r c) ↔ (ids (Shape.Idx.ofFin i)).toNat = r.val ∧ d = c := fun d => by
    rw [lands s huw hiw hsd hivd, wrapped_at n ids h i, BitVec.toInt_eq_toNat_of_lt (by have := h (Shape.Idx.ofFin i); omega)]
    exact and_congr_left' Int.ofNat_inj
  by_cases hr : (ids (Shape.Idx.ofFin i)).toNat = r.val
  · rw [if_pos hr, Finset.sum_eq_single c]
    · rw [if_pos ((hl c).2 ⟨hr, rfl⟩), updates_at]
    · intro d _ hd
      exact if_neg fun e => hd ((hl d).1 e).2
    · intro hc
      exact absurd (Finset.mem_univ c) hc
  · rw [if_neg hr]
    exact Finset.sum_eq_zero fun d _ => if_neg fun e => hr ((hl d).1 e).1

/-- The updated entity memory at an element, from a memory of zeros. -/
theorem entity_at (x : FVec Ideal S16384x128 .f32) (ids : IVec S16384 32) (w : FVec Ideal S64x128 .f32) (b : FVec Ideal S64 .f32)
    (mem : FVec Ideal S1000000x64 .f32) (hmem : ∀ j, mem j = (0 : EReal)) (h : ∀ j, (ids j).toNat < 2 ^ 31) (r : Fin 1000000) (c : Fin 64) :
    entity x ids w b mem (ix2 r c) = Cert.Spec.rowSum ids (fun i => Cert.Spec.proj x w b i c) r.val :=
  scatter_at (N := 1000000) _ rfl rfl rfl rfl mem hmem _ ids h x w b r c

/-- The updated relation memory at an element, from a memory of zeros. -/
theorem relation_at (x : FVec Ideal S16384x128 .f32) (ids : IVec S16384 32) (w : FVec Ideal S64x128 .f32) (b : FVec Ideal S64 .f32)
    (mem : FVec Ideal S1000x64 .f32) (hmem : ∀ j, mem j = (0 : EReal)) (h : ∀ j, (ids j).toNat < 2 ^ 31) (r : Fin 1000) (c : Fin 64) :
    relation x ids w b mem (ix2 r c) = Cert.Spec.rowSum ids (fun i => Cert.Spec.proj x w b i c) r.val :=
  scatter_at (N := 1000) _ rfl rfl rfl rfl mem hmem _ ids h x w b r c

end Cert.ReferenceIdeal.Value

end
-- ==== Proof.KernelIdeal.HostValue.lean ====
/-
  What the host operations around the two pipelines compute, at an element: reshapes, the slice, and the gather of the
  projected embeddings in the order of their ids.
-/
module

public import proofs.«01_k».proof.Proof.KernelIdeal.Run
public import proofs.«01_k».proof.Proof.KernelIdeal.TableOk
public import proofs.«01_k».proof.Proof.Order
public import Idealize.ShloMosaic.Lib.ValueIdxCore
public import Idealize.ShloMosaic.Lib.Routing.Ops
public import Idealize.ShloMosaic.Lib.Routing.OpsPair
public import Idealize.ShloMosaic.PureOps.Ideal.Laws
public import Idealize.ShloMosaic.Lib.Pipeline.Value

@[expose] public section

set_option maxRecDepth 16384
set_option synthInstance.maxSize 4096

noncomputable section

namespace Cert.KernelIdeal.Value

open Cert.KernelIdeal Cert.KernelIdeal.Gen Cert.KernelIdeal.Run
open Idealize.ShloMosaic Idealize.ShloMosaic.TcCoe Idealize.ShloMosaic.ValueIdx
open Idealize.SL Idealize.SL.RA

variable (m : (ℓ : Loc nD τ sig) → Buf (Elt Ideal) ℓ) (c : Dev nD)

/-- The relation ids in blocks. -/
theorem v0_at (t : Fin 16) (k : Fin 1024) :
    B1 m c main_v0 (ix3 t 0 k) = m ((c : Thread nD τ).loc main_arg3) (Shape.Idx.ofFin (⟨1024 * t.val + k.val, by omega⟩ : Fin 16384)) := by
  have e : B1 m c main_v0 = shapeCast S16x1x1024 (m ((c : Thread nD τ).loc main_arg3) : S16384.Idx → BitVec 32) shapeCasts_S16384_S16x1x1024 := by
    show StableHlo.after hostOps0 (V0 m c) main_v0 = _
    after_results
    rfl
  rw [e]
  refine shapeCast_apply _ _ _ _ ?_
  show (S16384.rowMajor (Shape.Idx.ofFin (⟨1024 * t.val + k.val, by omega⟩ : Fin 16384))).val = (S16x1x1024.rowMajor (ix3 t 0 k)).val
  rw [Shape.rowMajor_val_one, Shape.rowMajor_val_three]
  show 1024 * t.val + k.val = (t.val * 1 + 0) * 1024 + k.val
  omega

/-- The node bias as a row. -/
theorem v1_at (d : Fin 64) : B1 m c main_v1 (ix2 0 d) = m ((c : Thread nD τ).loc main_arg5) (ValueIdx.ix1 d) := by
  have e : B1 m c main_v1 = shapeCast S1x64 (m ((c : Thread nD τ).loc main_arg5) : S64.Idx → Ideal .f32) shapeCasts_S64_S1x64 := by
    show StableHlo.after hostOps0 (V0 m c) main_v1 = _
    after_results
    rfl
  rw [e]
  refine shapeCast_apply _ _ _ _ ?_
  show (S64.rowMajor (ValueIdx.ix1 d)).val = (S1x64.rowMajor (ix2 0 d)).val
  rw [Shape.rowMajor_val_one, Shape.rowMajor_val_two]
  show d.val = 0 * 64 + d.val
  omega

/-- The relation bias as a row. -/
theorem v2_at (d : Fin 64) : B1 m c main_v2 (ix2 0 d) = m ((c : Thread nD τ).loc main_arg7) (ValueIdx.ix1 d) := by
  have e : B1 m c main_v2 = shapeCast S1x64 (m ((c : Thread nD τ).loc main_arg7) : S64.Idx → Ideal .f32) shapeCasts_S64_S1x64 := by
    show StableHlo.after hostOps0 (V0 m c) main_v2 = _
    after_results
    rfl
  rw [e]
  refine shapeCast_apply _ _ _ _ ?_
  show (S64.rowMajor (ValueIdx.ix1 d)).val = (S1x64.rowMajor (ix2 0 d)).val
  rw [Shape.rowMajor_val_one, Shape.rowMajor_val_two]
  show d.val = 0 * 64 + d.val
  omega

/-- The argsort's word at a position: the position that comes there in the order of the ids. -/
theorem v6_at (outs : Outs (F := Ideal)) (k : Fin 16384) :
    V5 m outs c main_v6 (Shape.Idx.ofFin k)
      = BitVec.ofNat 32 (Cert.Order.ord (m ((c : Thread nD τ).loc main_arg2)) k).val := by
  have e : V5 m outs c main_v6
      = (Host.sort2 S16384 0 comparator_i32_i32_d0 (V4 m outs c main_arg2) (iotaInDim S16384 32 0)).2 := by
    show StableHlo.after hostOps1_2 (V4 m outs c) main_v6 = _
    after_results
    rfl
  have e2 : V4 m outs c main_arg2 = m ((c : Thread nD τ).loc main_arg2) := by
    rw [V4_of m outs c main_arg2 (by decide), V3_of m outs c main_arg2 (by decide), V2_of m outs c main_arg2 (by decide), V1_of m c main_arg2 (by decide)]
  rw [e, e2]
  have h := Cert.Order.sort2_eq (m ((c : Thread nD τ).loc main_arg2)) (iotaInDim S16384 32 0) comparator_i32_i32_d0 rfl (Shape.Idx.ofFin k)
  have hk : (Shape.Idx.ofFin k : (⟨1, ![16384]⟩ : Shape).Idx) 0 = k := rfl
  rw [hk] at h
  refine Eq.trans ?_ (h.trans ?_)
  · rfl
  · generalize Cert.Order.ord (m ((c : Thread nD τ).loc main_arg2)) k = q
    rfl

/-- The updates in the order of their ids. -/
theorem v14_at (k : Fin 16384) (d : Fin 64) :
    B6 m c main_v14 (ix3 k 0 d) = V2 m (outs2 m) c main_v3_0 (ix2 (Cert.Order.ord (m ((c : Thread nD τ).loc main_arg2)) k) d) := by
  have e : B6 m c main_v14 = shapeCast S16384x1x64
      (Host.gather gather_S16384x64_S16384x1_S16384x64_1_0_n_n_0_1_164 (V5 m (outs2 m) c main_v3_0)
        (broadcastInDim S16384x1 ![0] bcast_S16384_S16384x1_0
          (select (cmpi .slt (V5 m (outs2 m) c main_v6) (broadcastInDim S16384 ![] bcast_S_S16384 (constantI S_ 32 0#32)))
            (addi (V5 m (outs2 m) c main_v6) (broadcastInDim S16384 ![] bcast_S_S16384 (constantI S_ 32 16384#32)))
            (V5 m (outs2 m) c main_v6)) : IVec S16384x1 32) : S16384x64.Idx → Ideal .f32) shapeCasts_S16384x64_S16384x1x64 := by
    show StableHlo.after hostOps1_3 (V5 m (outs2 m) c) main_v14 = _
    after_results
    rfl
  have e3 : V5 m (outs2 m) c main_v3_0 = V2 m (outs2 m) c main_v3_0 := by
    rw [V5_of m _ c main_v3_0 (by decide), V4_of m _ c main_v3_0 (by decide), V3_of m _ c main_v3_0 (by decide)]
  rw [e]
  refine (shapeCast_apply _ _ _ (ix2 k d) ?_).trans ?_
  · rw [Shape.rowMajor_val_two, Shape.rowMajor_val_three]
    show k.val * 64 + d.val = (k.val * 1 + 0) * 64 + d.val
    omega
  · rw [e3]
    refine Routing.gather_row _ rfl rfl rfl rfl rfl _ _ k d (Cert.Order.ord (m ((c : Thread nD τ).loc main_arg2)) k) ?_ (by decide)
    have hw := v6_at m c (outs2 m) k
    have hk := (Cert.Order.ord (m ((c : Thread nD τ).loc main_arg2)) k).isLt
    refine (show _ = Scalar.select (IntOp.cmpi .slt (V5 m (outs2 m) c main_v6 (Shape.Idx.ofFin k)) 0#32)
      (IntOp.addi (V5 m (outs2 m) c main_v6 (Shape.Idx.ofFin k)) 16384#32) (V5 m (outs2 m) c main_v6 (Shape.Idx.ofFin k)) from ?_).trans ?_
    · refine congrArg (select (cmpi .slt (V5 m (outs2 m) c main_v6) (broadcastInDim S16384 ![] bcast_S_S16384 (constantI S_ 32 0#32)))
            (addi (V5 m (outs2 m) c main_v6) (broadcastInDim S16384 ![] bcast_S_S16384 (constantI S_ 32 16384#32)))
            (V5 m (outs2 m) c main_v6)) (funext fun b => ?_)
      match b with
      | ⟨0, _⟩ => rfl
    · rw [hw]
      exact Routing.wrap_of_lt _ _ (by rw [BitVec.toNat_ofNat]; omega)

/-- The entity array starts at zero. -/
theorem v16_at (i : S1000000x1x64.Idx) : B6 m c main_v16 i = (0 : EReal) := by
  have e : B6 m c main_v16 = (broadcastInDim S1000000x1x64 ![] bcast_S_S1000000x1x64 (constant S_ .f32 0x00000000#32) : FVec Ideal S1000000x1x64 .f32) := by
    show StableHlo.after hostOps1_3 (V5 m (outs2 m) c) main_v16 = _
    after_results
    rfl
  rw [e]
  exact Ideal.ofBits_zero_f32

variable (hok : ok1 (tab m))

/-- The first result is the entity array without its middle axis. -/
theorem v17_at (r : Fin 1000000) (d : Fin 64) : V8 m (left m hok) c main_v17 (ix2 r d) = B7 m hok c main_v16 (ix3 r 0 d) := by
  have e : V8 m (left m hok) c main_v17 = shapeCast S1000000x64 (B7 m hok c main_v16 : S1000000x1x64.Idx → Ideal .f32) shapeCasts_S1000000x1x64_S1000000x64 := by
    show StableHlo.after hostOps2 (V7 m (left m hok) c) main_v17 = _
    after_results
    rfl
  rw [e]
  refine shapeCast_apply _ _ _ _ ?_
  show (S1000000x1x64.rowMajor (ix3 r 0 d)).val = (S1000000x64.rowMajor (ix2 r d)).val
  rw [Shape.rowMajor_val_two, Shape.rowMajor_val_three]
  show (r.val * 1 + 0) * 64 + d.val = r.val * 64 + d.val
  omega

/-- The second result is the first thousand rows of the relation sums. -/
theorem v4_at (r : Fin 1000) (d : Fin 64) : V8 m (left m hok) c main_v4 (ix2 r d) = B2 m hok c main_v3_1 (ix2 ⟨r.val, by omega⟩ d) := by
  have e : V8 m (left m hok) c main_v4 = extractStridedSlice S1000x64 ![0, 0] (B2 m hok c main_v3_1 : S1024x64.Idx → Ideal .f32) slices_S1024x64_S1000x64_0_0 := by
    rw [V8_of m _ c main_v4 (by decide), V7_of m _ c main_v4 (by decide), V6_of m _ c main_v4 (by decide), V5_of m _ c main_v4 (by decide), V4_of m _ c main_v4 (by decide)]
    show StableHlo.after hostOps1 (V2 m (left m hok) c) main_v4 = _
    after_results
  rw [e]
  refine congrArg (B2 m hok c main_v3_1) (funext fun b => Fin.ext ?_)
  match b with
  | ⟨0, _⟩ => exact Nat.zero_add _
  | ⟨1, _⟩ => exact Nat.zero_add _

end Cert.KernelIdeal.Value

end
-- ==== Proof.KernelIdeal.ProjPay.lean ====
/-
  The projection kernel's arithmetic over the extended reals, at an element: a projected row, and the step that adds to
  the relation sums the projected rows whose id is the row.
-/
module

public import proofs.«01_k».proof.Proof.Gen.KernelIdeal
public import proofs.«01_k».proof.Proof.Gen.KernelIdeal.Skeleton
public import Idealize.ShloMosaic.PureOps.Ideal.Laws
public import Idealize.ShloMosaic.Lib.ValueIdxCore
public import Idealize.ShloMosaic.Lib.IdealHost
public import Idealize.ShloMosaic.Lib.WordCmp
public import Idealize.ShloMosaic.Lib.Pipeline.Value

@[expose] public section

set_option maxRecDepth 16384
set_option synthInstance.maxSize 4096

noncomputable section

namespace Cert.KernelIdeal.Value

open Cert.KernelIdeal Cert.KernelIdeal.Gen
open Idealize.ShloMosaic Idealize.ShloMosaic.ValueIdx

/-- The product of a block of embeddings and the weights, over their second axes. -/
abbrev P := dot_S1024x128_S64x128_S1024x64_1_1_0_0_n_n
/-- The product of the id comparison and the projected block. -/
abbrev Q := dot_S1024x1024_S1024x64_S1024x64_1_0_0_1_n_n

theorem P_rank : P.contr.rank = 1 := rfl
theorem P_size : P.contr.size ⟨0, by rw [P_rank]; exact Nat.one_pos⟩ = 128 := rfl
theorem Q_rank : Q.contr.rank = 1 := rfl
theorem Q_size : Q.contr.size ⟨0, by rw [Q_rank]; exact Nat.one_pos⟩ = 1024 := rfl

theorem P_lhs0 (j : S1024x64.Idx) (k : P.contr.Idx) : (P.lhsIdx j k 0 : ℕ) = j 0 := by
  simp [DotDims.lhsIdx, P, dot_S1024x128_S64x128_S1024x64_1_1_0_0_n_n]; rfl
theorem P_lhs1 (j : S1024x64.Idx) (k : P.contr.Idx) : (P.lhsIdx j k 1 : ℕ) = k ⟨0, by decide⟩ := by
  simp [DotDims.lhsIdx, P, dot_S1024x128_S64x128_S1024x64_1_1_0_0_n_n]; rfl
theorem P_rhs0 (j : S1024x64.Idx) (k : P.contr.Idx) : (P.rhsIdx j k 0 : ℕ) = j 1 := by
  simp [DotDims.rhsIdx, P, dot_S1024x128_S64x128_S1024x64_1_1_0_0_n_n]; rfl
theorem P_rhs1 (j : S1024x64.Idx) (k : P.contr.Idx) : (P.rhsIdx j k 1 : ℕ) = k ⟨0, by decide⟩ := by
  simp [DotDims.rhsIdx, P, dot_S1024x128_S64x128_S1024x64_1_1_0_0_n_n]; rfl

theorem Q_lhs0 (j : S1024x64.Idx) (k : Q.contr.Idx) : (Q.lhsIdx j k 0 : ℕ) = j 0 := by
  simp [DotDims.lhsIdx, Q, dot_S1024x1024_S1024x64_S1024x64_1_0_0_1_n_n]; rfl
theorem Q_lhs1 (j : S1024x64.Idx) (k : Q.contr.Idx) : (Q.lhsIdx j k 1 : ℕ) = k ⟨0, by decide⟩ := by
  simp [DotDims.lhsIdx, Q, dot_S1024x1024_S1024x64_S1024x64_1_0_0_1_n_n]; rfl
theorem Q_rhs0 (j : S1024x64.Idx) (k : Q.contr.Idx) : (Q.rhsIdx j k 0 : ℕ) = k ⟨0, by decide⟩ := by
  simp [DotDims.rhsIdx, Q, dot_S1024x1024_S1024x64_S1024x64_1_0_0_1_n_n]; rfl
theorem Q_rhs1 (j : S1024x64.Idx) (k : Q.contr.Idx) : (Q.rhsIdx j k 1 : ℕ) = j 1 := by
  simp [DotDims.rhsIdx, Q, dot_S1024x1024_S1024x64_S1024x64_1_0_0_1_n_n]; rfl

/-- A projected block at an element. -/
theorem pay1_at (x : FVec Ideal S1024x128 .f32) (w : FVec Ideal S64x128 .f32) (b : FVec Ideal S1x64 .f32) (i : Fin 1024) (d : Fin 64) :
    k0_pay1 (F := Ideal) x w b (ix2 i d) = ((∑ k : Fin 128, (x (ix2 i k) : EReal) * w (ix2 d k)) + b (ix2 0 d) : EReal) := by
  show (_ : EReal) + _ = _ + _
  refine congrArg₂ (· + ·) ?_ ?_
  · refine (Ideal.matmul_apply P none x w _ (ix2 i d)).trans ?_
    refine (congrArg₂ (· + ·) Ideal.ofBits_zero_f32 (Equiv.sum_comp (contrEquiv1 P 128 P_rank P_size).symm _).symm).trans ((zero_add _).trans ?_)
    refine Finset.sum_congr rfl fun k _ => ?_
    have hl : P.lhsIdx (ix2 i d) ((contrEquiv1 P 128 P_rank P_size).symm k) = ix2 i k := by
      funext a
      match a with
      | ⟨0, _⟩ => exact Fin.ext (P_lhs0 _ _)
      | ⟨1, _⟩ => exact Fin.ext ((P_lhs1 _ _).trans (contrEquiv1_symm_val P 128 P_rank P_size k))
    have hr : P.rhsIdx (ix2 i d) ((contrEquiv1 P 128 P_rank P_size).symm k) = ix2 d k := by
      funext a
      match a with
      | ⟨0, _⟩ => exact Fin.ext (P_rhs0 _ _)
      | ⟨1, _⟩ => exact Fin.ext ((P_rhs1 _ _).trans (contrEquiv1_symm_val P 128 P_rank P_size k))
    rw [hl, hr]
  · rw [shapeCast_self]
    refine congrArg b (funext fun a => ?_)
    match a with
    | ⟨0, _⟩ => rfl
    | ⟨1, _⟩ => rfl

/-- The ids of a block spread over the rows, at an element. -/
theorem ids_at (v : IVec S1x1x1024 32) (r k : Fin 1024) :
    broadcastTo S1024x1024 (shapeCast S1x1024 (shapeCast S1024 v shapeCasts_S1x1x1024_S1024) shapeCasts_S1024_S1x1024) broadcasts_S1x1024_S1024x1024 (ix2 r k)
      = v (ix3 0 0 k) := by
  rw [broadcastTo_apply _ _ _ (ix2 (0 : Fin 1) k) (fun a => by match a with | ⟨0, _⟩ => rfl | ⟨1, _⟩ => rfl)]
  rw [shapeCast_apply _ _ _ (ValueIdx.ix1 k) (by rw [Shape.rowMajor_val_one, Shape.rowMajor_val_two]; show k.val = 0 * 1024 + k.val; omega)]
  rw [shapeCast_apply _ _ _ (ix3 (0 : Fin 1) (0 : Fin 1) k) (by rw [Shape.rowMajor_val_one, Shape.rowMajor_val_three]; show (0 * 1 + 0) * 1024 + k.val = k.val; omega)]

/-- The comparison of a block's id with the row, as an extended real: one where they agree, else zero. -/
theorem onehot_at (y : BitVec 32) (r : Fin 1024) :
    ((((IntOp.cmpi .eq y (BitVec.ofNat 32 r.val)).setWidth 32).toInt : ℝ) : EReal) = if y.toNat = r.val then 1 else 0 := by
  rw [WordCmp.cmpi_eq_eq_toNat, BitVec.toNat_ofNat, Nat.mod_eq_of_lt (by have := r.isLt; omega)]
  by_cases h : y.toNat = r.val
  · rw [decide_eq_true h, if_pos h]; simp
  · rw [decide_eq_false h, if_neg h]; simp

/-- The step at an element: the projected rows whose id is the row are added. -/
theorem pay3_at (x : FVec Ideal S1024x128 .f32) (w : FVec Ideal S64x128 .f32) (b : FVec Ideal S1x64 .f32) (v : IVec S1x1x1024 32)
    (a : FVec Ideal S1024x64 .f32) (r : Fin 1024) (d : Fin 64) :
    k0_pay3 (F := Ideal) x w b v a (ix2 r d)
      = ((a (ix2 r d) : EReal) + ∑ k : Fin 1024, if (v (ix3 0 0 k)).toNat = r.val then (k0_pay1 (F := Ideal) x w b (ix2 k d) : EReal) else 0 : EReal) := by
  show (_ : EReal) + _ = _ + _
  refine congrArg₂ (· + ·) ?_ ?_
  · rw [shapeCast_self]
  · refine (Ideal.matmul_apply Q none _ (k0_pay1 (F := Ideal) x w b) _ (ix2 r d)).trans ?_
    refine (congrArg₂ (· + ·) Ideal.ofBits_zero_f32 (Equiv.sum_comp (contrEquiv1 Q 1024 Q_rank Q_size).symm _).symm).trans ((zero_add _).trans ?_)
    refine Finset.sum_congr rfl fun k _ => ?_
    have hl : Q.lhsIdx (ix2 r d) ((contrEquiv1 Q 1024 Q_rank Q_size).symm k) = ix2 r k := by
      funext a
      match a with
      | ⟨0, _⟩ => exact Fin.ext (Q_lhs0 _ _)
      | ⟨1, _⟩ => exact Fin.ext ((Q_lhs1 _ _).trans (contrEquiv1_symm_val Q 1024 Q_rank Q_size k))
    have hr : Q.rhsIdx (ix2 r d) ((contrEquiv1 Q 1024 Q_rank Q_size).symm k) = ix2 k d := by
      funext a
      match a with
      | ⟨0, _⟩ => exact Fin.ext ((Q_rhs0 _ _).trans (contrEquiv1_symm_val Q 1024 Q_rank Q_size k))
      | ⟨1, _⟩ => exact Fin.ext (Q_rhs1 _ _)
    rw [hl, hr]
    have hb := ids_at v r k
    have hi : iota .tc S1024x1024 32 [0] iota_S1024x1024_d0_w32 (ix2 r k) = BitVec.ofNat 32 r.val := iota_single_apply _ _ _ _ _ _
    have ho : (sitofp (F := Ideal) .f32 (extui 32 (cmpi .eq
        (broadcastTo S1024x1024 (shapeCast S1x1024 (shapeCast S1024 v shapeCasts_S1x1x1024_S1024) shapeCasts_S1024_S1x1024) broadcasts_S1x1024_S1024x1024)
        (iota .tc S1024x1024 32 [0] iota_S1024x1024_d0_w32)) natLt_1_32) (ix2 r k) : EReal) = if (v (ix3 0 0 k)).toNat = r.val then 1 else 0 := by
      refine Eq.trans ?_ (onehot_at (v (ix3 0 0 k)) r)
      rw [← hb, ← hi]
      rfl
    refine (congrArg (· * (k0_pay1 (F := Ideal) x w b (ix2 k d) : EReal)) ho).trans ?_
    rw [ite_mul, one_mul, zero_mul]

end Cert.KernelIdeal.Value

end
-- ==== Proof.KernelIdeal.ProjValue.lean ====
/-
  What the projection pipeline leaves in its two arrays, over the extended reals: the projected node embeddings, and the
  sums of the projected relation embeddings by id.
-/
module

public import proofs.«01_k».proof.Proof.KernelIdeal.ProjData
public import proofs.«01_k».proof.Proof.KernelIdeal.ProjPay
public import proofs.«01_k».proof.Proof.Spec
public import Idealize.ShloMosaic.Lib.Pipeline.ValueKit.Geometry

@[expose] public section

set_option maxRecDepth 16384
set_option synthInstance.maxSize 4096

noncomputable section

namespace Cert.KernelIdeal.Value

open Cert.KernelIdeal Cert.KernelIdeal.Gen Cert.KernelIdeal.Run
open Idealize.ShloMosaic Idealize.ShloMosaic.TcCoe Idealize.ShloMosaic.ValueIdx
open Idealize.SL Idealize.SL.RA

/-! Which block each window works on at a point. -/

theorem index0_0 : ∀ t : Fin grid0.N, win0_0.index t = ![t.val, 0] := by decide +kernel
theorem index0_1 : ∀ t : Fin grid0.N, win0_1.index t = ![t.val, 0] := by decide +kernel
theorem index0_2 : ∀ t : Fin grid0.N, win0_2.index t = ![t.val, 0, 0] := by decide +kernel
theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![0, 0] := by decide +kernel
theorem index0_6 : ∀ t : Fin grid0.N, win0_6.index t = ![0, 0] := by decide +kernel
theorem index0_7 : ∀ t : Fin grid0.N, win0_7.index t = ![t.val, 0] := by decide +kernel

variable (V : (c : Dev nD) → (b : Ref sig .tc) → Buf (Elt Ideal) ((c : Thread nD τ).loc b)) (c : Dev nD)

theorem row_lt {t : Fin cfg0.N} (k : Fin 1024) : 1024 * t.val + k.val < 16384 := by
  have ht : t.val < 16 := lt_of_lt_of_eq t.isLt N_0
  have := k.isLt
  omega

/-! Each input window's block at an element is its array's element. -/

theorem block0 (t : Fin cfg0.N) (k : Fin 1024) (d : Fin 128) : blockIn V c 0 t (ix2 k d) = V c main_arg0 (ix2 ⟨1024 * t.val + k.val, row_lt k⟩ d) := by
  show V c main_arg0 ((win0_0.blk t).view.emb (ix2 k d)) = _
  refine congrArg (V c main_arg0) ?_
  blk_ext [index0_0 t]
  show t.val * 1024 + k.val = _
  omega

theorem block1 (t : Fin cfg0.N) (k : Fin 1024) (d : Fin 128) : blockIn V c 1 t (ix2 k d) = V c main_arg1 (ix2 ⟨1024 * t.val + k.val, row_lt k⟩ d) := by
  show V c main_arg1 ((win0_1.blk t).view.emb (ix2 k d)) = _
  refine congrArg (V c main_arg1) ?_
  blk_ext [index0_1 t]
  show t.val * 1024 + k.val = _
  omega

theorem block2 (t : Fin cfg0.N) (k : Fin 1024) : blockIn V c 2 t (ix3 0 0 k) = V c main_v0 (ix3 ⟨t.val, lt_of_lt_of_eq t.isLt N_0⟩ 0 k) := by
  show V c main_v0 ((win0_2.blk t).view.emb (ix3 0 0 k)) = _
  refine congrArg (V c main_v0) ?_
  blk_ext [index0_2 t]

theorem block3 (t : Fin cfg0.N) (d : Fin 64) (k : Fin 128) : blockIn V c 3 t (ix2 d k) = V c main_arg4 (ix2 d k) := by
  show V c main_arg4 ((win0_3.blk t).view.emb (ix2 d k)) = _
  refine congrArg (V c main_arg4) ?_
  blk_ext [index0_3 t]

theorem block4 (t : Fin cfg0.N) (d : Fin 64) : blockIn V c 4 t (ix2 0 d) = V c main_v1 (ix2 0 d) := by
  show V c main_v1 ((win0_4.blk t).view.emb (ix2 0 d)) = _
  refine congrArg (V c main_v1) ?_
  blk_ext [index0_4 t]

theorem block5 (t : Fin cfg0.N) (d : Fin 64) (k : Fin 128) : blockIn V c 5 t (ix2 d k) = V c main_arg6 (ix2 d k) := by
  show V c main_arg6 ((win0_5.blk t).view.emb (ix2 d k)) = _
  refine congrArg (V c main_arg6) ?_
  blk_ext [index0_5 t]

theorem block6 (t : Fin cfg0.N) (d : Fin 64) : blockIn V c 6 t (ix2 0 d) = V c main_v2 (ix2 0 d) := by
  show V c main_v2 ((win0_6.blk t).view.emb (ix2 0 d)) = _
  refine congrArg (V c main_v2) ?_
  blk_ext [index0_6 t]

/-- The projected node block at an element. -/
theorem projBlock_at (b : FVec Ideal S64 .f32) (hb : ∀ d : Fin 64, V c main_v1 (ix2 0 d) = b (ValueIdx.ix1 d)) (t : Fin cfg0.N) (k : Fin 1024) (d : Fin 64) :
    projBlock V c t (ix2 k d) = Cert.Spec.proj (V c main_arg0) (V c main_arg4) b ⟨1024 * t.val + k.val, row_lt k⟩ d := by
  unfold projBlock
  rw [pay1_at, block4, hb]
  refine congrArg (· + (b (ValueIdx.ix1 d) : EReal)) (Finset.sum_congr rfl fun e _ => ?_)
  rw [block0, block3]

/-- The array of the projected node embeddings after the pipeline. -/
theorem proj_array (b : FVec Ideal S64 .f32) (hb : ∀ d : Fin 64, V c main_v1 (ix2 0 d) = b (ValueIdx.ix1 d)) :
    (projDat V c).arrAt 7 cfg0.N = fun i : S16384x64.Idx => Cert.Spec.proj (V c main_arg0) (V c main_arg4) b (i 0) (i 1) := by
  refine (projDat V c).arrAt_eq_of_covers 7 _ (by decide +kernel) fun t _ y => ?_
  blk_simp
  rw [projAfter_7]
  have hy : y = ix2 (y 0) (y 1) := eq_ix2 y
  rw [hy]
  refine (projBlock_at V c b hb t (y 0) (y 1)).trans ?_
  have h0 : (⟨1024 * t.val + (y 0).val, row_lt (y 0)⟩ : Fin 16384) = (win0_7.blk t).view.emb (ix2 (y 0) (y 1)) 0 := by
    apply Fin.ext
    blk_simp [index0_7 t]
    show 1024 * t.val + (y 0).val = t.val * 1024 + (y 0).val
    omega
  have h1 : (y 1 : Fin 64) = (win0_7.blk t).view.emb (ix2 (y 0) (y 1)) 1 := by
    apply Fin.ext
    blk_simp [index0_7 t]
    rfl
  exact congrArg₂ (Cert.Spec.proj (V c main_arg0) (V c main_arg4) b) h0 h1

/-! ## The relation sums -/

/-- What position `i` adds to row `r`, column `d` of the relation sums: its projection if its id is `r`. -/
def relTerm (ids : Cert.Order.Words) (b : FVec Ideal S64 .f32) (r : ℕ) (d : Fin 64) (i : ℕ) : EReal :=
  if h : i < 16384 then
    if (ids (Shape.Idx.ofFin (⟨i, h⟩ : Fin 16384))).toNat = r then Cert.Spec.proj (V c main_arg1) (V c main_arg6) b ⟨i, h⟩ d else 0
  else 0

/-- One step adds the terms of its block. -/
theorem relStep_at (ids : Cert.Order.Words) (b : FVec Ideal S64 .f32)
    (hids : ∀ (t : Fin 16) (k : Fin 1024), V c main_v0 (ix3 t 0 k) = ids (Shape.Idx.ofFin (⟨1024 * t.val + k.val, by omega⟩ : Fin 16384)))
    (hb : ∀ d : Fin 64, V c main_v2 (ix2 0 d) = b (ValueIdx.ix1 d)) (t : Fin cfg0.N) (a : FVec Ideal S1024x64 .f32) (r : Fin 1024) (d : Fin 64) :
    relStep V c t a (ix2 r d) = ((a (ix2 r d) : EReal) + ∑ k ∈ Finset.range 1024, relTerm V c ids b r.val d (1024 * t.val + k) : EReal) := by
  unfold relStep
  rw [pay3_at, Finset.sum_range]
  refine congrArg ((a (ix2 r d) : EReal) + ·) (Finset.sum_congr rfl fun k _ => ?_)
  have hk : k0_pay1 (F := Ideal) (blockIn V c 1 t) (blockIn V c 5 t) (blockIn V c 6 t) (ix2 k d)
      = Cert.Spec.proj (V c main_arg1) (V c main_arg6) b ⟨1024 * t.val + k.val, row_lt k⟩ d := by
    rw [pay1_at, block6, hb]
    refine congrArg (· + (b (ValueIdx.ix1 d) : EReal)) (Finset.sum_congr rfl fun e _ => ?_)
    rw [block1, block5]
  rw [hk, block2, hids]
  unfold relTerm
  rw [dif_pos (row_lt k)]

/-- The accumulator after point `n`: the terms of every position of the blocks so far. -/
theorem relAcc_at (ids : Cert.Order.Words) (b : FVec Ideal S64 .f32)
    (hids : ∀ (t : Fin 16) (k : Fin 1024), V c main_v0 (ix3 t 0 k) = ids (Shape.Idx.ofFin (⟨1024 * t.val + k.val, by omega⟩ : Fin 16384)))
    (hb : ∀ d : Fin 64, V c main_v2 (ix2 0 d) = b (ValueIdx.ix1 d)) (r : Fin 1024) (d : Fin 64) :
    ∀ (n : ℕ) (h : n < cfg0.N), relAcc V c n h (ix2 r d) = ∑ i ∈ Finset.range (1024 * (n + 1)), relTerm V c ids b r.val d i
  | 0, h => by
    refine (relStep_at V c ids b hids hb ⟨0, h⟩ _ r d).trans ?_
    have h0 : (k0_pay2 (F := Ideal) (ix2 r d) : EReal) = 0 := Ideal.ofBits_zero_f32
    rw [h0, zero_add]
    refine Finset.sum_congr rfl fun k _ => congrArg _ ?_
    show 1024 * 0 + k = k
    omega
  | n + 1, h => by
    refine (relStep_at V c ids b hids hb ⟨n + 1, h⟩ _ r d).trans ?_
    rw [relAcc_at ids b hids hb r d n, show 1024 * (n + 1 + 1) = 1024 * (n + 1) + 1024 by omega, Finset.sum_range_add]

/-- The array of the relation sums after the pipeline. -/
theorem rel_array (ids : Cert.Order.Words) (b : FVec Ideal S64 .f32)
    (hids : ∀ (t : Fin 16) (k : Fin 1024), V c main_v0 (ix3 t 0 k) = ids (Shape.Idx.ofFin (⟨1024 * t.val + k.val, by omega⟩ : Fin 16384)))
    (hb : ∀ d : Fin 64, V c main_v2 (ix2 0 d) = b (ValueIdx.ix1 d)) :
    (projDat V c).arrAt 8 cfg0.N = fun i : S1024x64.Idx => Cert.Spec.rowSum ids (fun k => Cert.Spec.proj (V c main_arg1) (V c main_arg6) b k (i 1)) (i 0).val := by
  refine (projDat V c).arrAt_eq_of_after_last 8 ⟨15, by rw [show cfg0.N = 16 from N_0]; decide⟩ (by decide +kernel) _ fun j => ?_
  have hj : j = ix2 (j 0) (j 1) := eq_ix2 j
  rw [hj]
  refine (congrFun (projAfter_8 V c _) (ix2 (j 0) (j 1))).trans ?_
  refine (relAcc_at V c ids b hids hb (j 0) (j 1) 15 _).trans ?_
  show ∑ i ∈ Finset.range 16384, _ = _
  rw [Finset.sum_range]
  unfold Cert.Spec.rowSum
  refine Finset.sum_congr rfl fun i _ => ?_
  unfold relTerm
  rw [dif_pos i.isLt]
  rfl

end Cert.KernelIdeal.Value

end
-- ==== Proof.KernelIdeal.ScatValue.lean ====
/-
  What the scatter pipeline leaves in its array, over the extended reals, when the table's words are in order and the
  array starts at zero: each row holds the sum of the updates whose word is the row.
-/
module

public import proofs.«01_k».proof.Proof.KernelIdeal.ScatterData
public import proofs.«01_k».proof.Proof.Spec
public import Idealize.ShloMosaic.PureOps.Ideal.Laws
public import Idealize.ShloMosaic.Lib.Pipeline.ValueKit.Geometry

@[expose] public section

set_option maxRecDepth 16384
set_option synthInstance.maxSize 4096

noncomputable section

namespace Cert.KernelIdeal.Value

open Cert.KernelIdeal Cert.KernelIdeal.Gen Cert.KernelIdeal.Run
open Idealize.ShloMosaic Idealize.ShloMosaic.TcCoe Idealize.ShloMosaic.ValueIdx
open Idealize.SL Idealize.SL.RA
open Idealize.ShloMosaic.Pipeline (Dat)

variable (a : (pcfg1 (F := Ideal)).Adm) (V : (c : Dev nD) → (b : Ref sig .tc) → Buf (Elt Ideal) ((c : Thread nD τ).loc b)) (c : Dev nD)

/-- The update fetched at a point, at an element. -/
theorem updIn_at (t : Fin (cfg1 a).N) (d : Fin 64) : updIn a V c t (ix3 0 0 d) = V c main_v14 (ix3 ⟨t.val, Nat.lt_of_lt_of_eq t.isLt N_1⟩ 0 d) := by
  show V c main_v14 (((win1 a 0).blk t).view.emb (ix3 0 0 d)) = _
  refine congrArg (V c main_v14) (funext fun b => Fin.ext ?_)
  have e := congrFun (inIndex a t)
  match b with
  | ⟨0, _⟩ =>
    show (win1 a 0).index t 0 * 1 + 1 * 0 = t.val
    rw [e 0]
    show t.val * 1 + 1 * 0 = t.val
    omega
  | ⟨1, _⟩ =>
    show (win1 a 0).index t 1 * 1 + 1 * 0 = 0
    rw [e 1]
    rfl
  | ⟨2, _⟩ =>
    show (win1 a 0).index t 2 * 64 + 1 * d.val = d.val
    rw [e 2]
    show 0 * 64 + 1 * d.val = d.val
    omega

/-- Where the output's block at a point lies: in the row its word names. -/
theorem outBlock_at (t : Fin (cfg1 a).N) (hr : (sid a.1 t.val).toNat < 1000000) (d : Fin 64) :
    ((win1 a 1).blk t).view.emb (ix3 (0 : Fin 1) (0 : Fin 1) d) = ix3 (⟨(sid a.1 t.val).toNat, hr⟩ : Fin 1000000) 0 d := by
  refine funext fun b => Fin.ext ?_
  have e := congrFun (outIndex a t)
  match b with
  | ⟨0, _⟩ =>
    show (win1 a 1).index t 0 * 1 + 1 * 0 = (sid a.1 t.val).toNat
    rw [e 0]
    show (sid a.1 t.val).toNat * 1 + 1 * 0 = (sid a.1 t.val).toNat
    omega
  | ⟨1, _⟩ =>
    show (win1 a 1).index t 1 * 1 + 1 * 0 = 0
    rw [e 1]
    rfl
  | ⟨2, _⟩ =>
    show (win1 a 1).index t 2 * 64 + 1 * d.val = d.val
    rw [e 2]
    show 0 * 64 + 1 * d.val = d.val
    omega

/-- What position `n` adds to row `r`: its update `u n` if its word is `r`. -/
def rowTerm (T : pre1.Contents (Elt Ideal)) (u : ℕ → EReal) (r n : ℕ) : EReal := if (sid T n).toNat = r then u n else 0

/-- The buffer after point `n`: the sum of the updates so far of the row at hand. -/
theorem rowAcc_at (hmono : ∀ i j, i ≤ j → j < 16384 → (sid a.1 i).toNat ≤ (sid a.1 j).toNat) (u : ℕ → EReal) (d : Fin 64)
    (hu : ∀ n : Fin 16384, V c main_v14 (ix3 n 0 d) = u n.val) :
    ∀ (n : ℕ) (h : n < (cfg1 a).N), rowAcc a V c n h (ix3 0 0 d) = ∑ i ∈ Finset.range (n + 1), rowTerm a.1 u (sid a.1 n).toNat i
  | 0, h => by
    refine ((congrFun (shapeCast_self _ _) _).trans ((updIn_at a V c ⟨0, h⟩ d).trans (hu _))).trans ?_
    rw [Finset.sum_range_one]
    unfold rowTerm
    rw [if_pos rfl]
  | n + 1, h => by
    have hn : n + 1 < 16384 := Nat.lt_of_lt_of_eq h N_1
    rw [Finset.sum_range_succ]
    have hlast : rowTerm a.1 u (sid a.1 (n + 1)).toNat (n + 1) = u (n + 1) := by unfold rowTerm; rw [if_pos rfl]
    have hupd : updIn a V c ⟨n + 1, h⟩ (ix3 0 0 d) = u (n + 1) := (updIn_at a V c ⟨n + 1, h⟩ d).trans (hu _)
    rw [hlast]
    by_cases hs : sid a.1 (n + 1) = sid a.1 n
    · have e : rowAcc a V c (n + 1) h = k1_pay2 (rowAcc a V c n (Nat.lt_of_succ_lt h)) (updIn a V c ⟨n + 1, h⟩) := if_pos hs
      rw [e]
      show ((shapeCast _ _ _ (ix3 0 0 d) : EReal) + shapeCast _ _ _ (ix3 0 0 d) : EReal) = _
      rw [shapeCast_self, shapeCast_self, hupd, rowAcc_at hmono u d hu n, hs]
    · have e : rowAcc a V c (n + 1) h = k1_pay1 (updIn a V c ⟨n + 1, h⟩) := if_neg hs
      rw [e]
      refine ((congrFun (shapeCast_self _ _) _).trans hupd).trans ?_
      rw [Finset.sum_eq_zero, zero_add]
      intro i hi
      have hi' : i < n + 1 := Finset.mem_range.mp hi
      have h1 := hmono i n (by omega) (by omega)
      have h2 := hmono n (n + 1) (by omega) hn
      have h3 : (sid a.1 (n + 1)).toNat ≠ (sid a.1 n).toNat := fun e => hs (BitVec.eq_of_toNat_eq e)
      unfold rowTerm
      exact if_neg (by omega)

/-- At a point whose buffer is written back the sum is the whole row's. -/
theorem rowAcc_flushed (hmono : ∀ i j, i ≤ j → j < 16384 → (sid a.1 i).toNat ≤ (sid a.1 j).toNat) (u : ℕ → EReal) (d : Fin 64)
    (hu : ∀ n : Fin 16384, V c main_v14 (ix3 n 0 d) = u n.val) (t : Fin (cfg1 a).N) (hf : (win1 a 1).flush t = true) :
    rowAcc a V c t.val t.isLt (ix3 0 0 d) = ∑ i ∈ Finset.range 16384, rowTerm a.1 u (sid a.1 t.val).toNat i := by
  have ht : t.val < 16384 := Nat.lt_of_lt_of_eq t.isLt N_1
  rw [rowAcc_at a V c hmono u d hu]
  refine Finset.sum_subset (Finset.range_subset_range.mpr ht) fun i hi hni => ?_
  have hi' : i < 16384 := Finset.mem_range.mp hi
  have hni' : ¬ i < t.val + 1 := fun h => hni (Finset.mem_range.mpr h)
  have hne : sid a.1 (t.val + 1) ≠ sid a.1 t.val := fun e => by
    have := flush1_out_false a t (by omega) e
    rw [this] at hf
    exact absurd hf (by decide)
  have h1 := hmono t.val (t.val + 1) (by omega) (by omega)
  have h2 := hmono (t.val + 1) i (by omega) hi'
  have h3 : (sid a.1 (t.val + 1)).toNat ≠ (sid a.1 t.val).toNat := fun e => hne (BitVec.eq_of_toNat_eq e)
  unfold rowTerm
  exact if_neg (by omega)

/-- An index of a one-row block is its column. -/
theorem unit_row (y : S1x1x64.Idx) : ∃ d : Fin 64, y = ix3 (0 : Fin 1) (0 : Fin 1) d :=
  ⟨y 2, funext fun b => match b with
    | ⟨0, _⟩ => Subsingleton.elim (α := Fin 1) _ _
    | ⟨1, _⟩ => Subsingleton.elim (α := Fin 1) _ _
    | ⟨2, _⟩ => rfl⟩

/-- The array after the pipeline at an element. -/
theorem scat_array (hmono : ∀ i j, i ≤ j → j < 16384 → (sid a.1 i).toNat ≤ (sid a.1 j).toNat)
    (hr : ∀ n, n < 16384 → (sid a.1 n).toNat < 1000000) (u : ℕ → Fin 64 → EReal)
    (hu : ∀ (n : Fin 16384) (d : Fin 64), V c main_v14 (ix3 n 0 d) = u n.val d) (hz : ∀ i, V c main_v16 i = (0 : EReal))
    (r : Fin 1000000) (d : Fin 64) :
    (scatDat a V c).arrAt 1 (cfg1 a).N (ix3 r 0 d) = ∑ i ∈ Finset.range 16384, rowTerm a.1 (fun n => u n d) r.val i := by
  classical
  by_cases hex : ∃ n, n < 16384 ∧ (sid a.1 n).toNat = r.val
  · -- the last position of the row is written back
    obtain ⟨n, hn, hnr⟩ := hex
    let t := Nat.findGreatest (fun k => (sid a.1 k).toNat = r.val) 16383
    have htr : (sid a.1 t).toNat = r.val := Nat.findGreatest_spec (P := fun k => (sid a.1 k).toNat = r.val) (by omega : n ≤ 16383) hnr
    have htle : t ≤ 16383 := Nat.findGreatest_le _
    have htN : t < (cfg1 a).N := Nat.lt_of_lt_of_eq (by omega) (N_cfg1 a).symm
    have hf : (win1 a 1).flush ⟨t, htN⟩ = true := by
      refine flush1_out_true a ⟨t, htN⟩ ?_
      by_cases hl : t + 1 = 16384
      · exact .inl hl
      · refine .inr fun e => ?_
        have := Nat.findGreatest_is_greatest (P := fun k => (sid a.1 k).toNat = r.val) (n := 16383) (k := t + 1) (Nat.lt_succ_self t) (by omega)
        exact this ((congrArg BitVec.toNat e).trans htr)
    have hmem : (ix3 r 0 d : S1000000x1x64.Idx) ∈ (((cfg1 a).win 1).blk ⟨t, htN⟩).view.set := by
      have := ((win1 a 1).blk ⟨t, htN⟩).view.emb_mem_set (ix3 (0 : Fin 1) (0 : Fin 1) d)
      rw [outBlock_at a ⟨t, htN⟩ (hr t (by omega)) d] at this
      have er : (⟨(sid a.1 t).toNat, hr t (by omega)⟩ : Fin 1000000) = r := Fin.ext htr
      rw [er] at this
      exact this
    refine (scatDat a V c).arrAt_forall_of_flushed 1
      (fun i v => v = ∑ k ∈ Finset.range 16384, rowTerm a.1 (fun n => u n ((show S1000000x1x64.Idx from i) 2)) ((show S1000000x1x64.Idx from i) 0).val k)
      (fun t' hf' y => ?_) (cfg1 a).N ⟨t, htN⟩ (ix3 r 0 d) htN hf hmem
    obtain ⟨x, rfl⟩ := unit_row y
    have ht' : t'.val < 16384 := Nat.lt_of_lt_of_eq t'.isLt N_1
    have e := outBlock_at a t' (hr t'.val ht') x
    refine (rowAcc_flushed a V c hmono (fun n => u n x) x (fun n => hu n x) t' hf').trans ?_
    have e0 : ((((win1 a 1).blk t').view.emb (ix3 (0 : Fin 1) (0 : Fin 1) x) : S1000000x1x64.Idx) 0).val = (sid a.1 t'.val).toNat := by rw [e]; rfl
    have e2 : (((win1 a 1).blk t').view.emb (ix3 (0 : Fin 1) (0 : Fin 1) x) : S1000000x1x64.Idx) 2 = x := by rw [e]; rfl
    exact (congrArg₂ (fun (d : Fin 64) (r : ℕ) => ∑ k ∈ Finset.range 16384, rowTerm a.1 (fun n => u n d) r k) e2 e0).symm
  · -- no position names the row: it keeps its zeros
    refine ((scatDat a V c).arrAt_apply_of_forall_not_mem 1 (cfg1 a).N (ix3 r 0 d) fun t _ _ hm => hex ?_).trans ?_
    · have ht : t.val < 16384 := Nat.lt_of_lt_of_eq t.isLt N_1
      obtain ⟨y, hy⟩ := View.exists_emb_of_mem_set _ hm
      obtain ⟨x, rfl⟩ := unit_row y
      have e := (outBlock_at a t (hr t.val ht) x).symm.trans hy
      exact ⟨t.val, ht, congrArg Fin.val (congrFun e 0)⟩
    · have h0 : ∑ i ∈ Finset.range 16384, rowTerm a.1 (fun n => u n d) r.val i = 0 :=
        Finset.sum_eq_zero fun i hi => if_neg fun h => hex ⟨i, Finset.mem_range.mp hi, h⟩
      exact (hz _).trans h0.symm

end Cert.KernelIdeal.Value

end
-- ==== Proof.Algebra.lean ====
/-
  The value claim: from zero memories, and ids that name rows of them, the two programs compute the same two memories.
-/
module

public import proofs.«01_k».proof.Defs
public import proofs.«01_k».proof.Proof.Pre
public import proofs.«01_k».proof.Proof.Ref
public import proofs.«01_k».proof.Proof.RefValue
public import proofs.«01_k».proof.Proof.KernelIdeal.HostValue
public import proofs.«01_k».proof.Proof.KernelIdeal.ProjValue
public import proofs.«01_k».proof.Proof.KernelIdeal.ScatValue

@[expose] public section

set_option maxRecDepth 16384
set_option synthInstance.maxSize 4096

noncomputable section

namespace Cert.KernelIdeal.Value

open Cert.KernelIdeal Cert.KernelIdeal.Gen Cert.KernelIdeal.Run
open Idealize.ShloMosaic Idealize.ShloMosaic.TcCoe Idealize.ShloMosaic.ValueIdx
open Idealize.SL Idealize.SL.RA Idealize.SL.Sem

variable (m : (ℓ : Loc nD τ sig) → Buf (Elt Ideal) ℓ) (c : Dev nD) (hok : ok1 (tab m))

/-- The sum over the sorted positions is the sum over the positions. -/
theorem sorted_sum (ids : Cert.Order.Words) (u : Fin 16384 → EReal) (r : ℕ) :
    (∑ n : Fin 16384, if (Cert.Order.sorted ids n).toNat = r then u (Cert.Order.ord ids n) else 0) = Cert.Spec.rowSum ids u r :=
  (Cert.Order.ord_bijective ids).sum_comp (fun i => if (ids (Shape.Idx.ofFin i)).toNat = r then u i else 0)

/-- The relation memory the kernel leaves: at row `r`, the sum of the projected embeddings whose relation id is `r`. -/
theorem relation_result (r : Fin 1000) (d : Fin 64) :
    V8 m (left m hok) c main_v4 (ix2 r d)
      = Cert.Spec.rowSum (m ((c : Thread nD τ).loc main_arg3))
          (fun k => Cert.Spec.proj (m ((c : Thread nD τ).loc main_arg1)) (m ((c : Thread nD τ).loc main_arg6))
            (m ((c : Thread nD τ).loc main_arg7)) k d) r.val := by
  have h1 : B1 m c main_arg1 = m ((c : Thread nD τ).loc main_arg1) := V1_of m c main_arg1 (by decide)
  have h6 : B1 m c main_arg6 = m ((c : Thread nD τ).loc main_arg6) := V1_of m c main_arg6 (by decide)
  refine (v4_at m c hok r d).trans ((congrFun (B2_v3_1 m hok c) _).trans ((congrFun
    (rel_array (B1 m) c (m ((c : Thread nD τ).loc main_arg3)) (m ((c : Thread nD τ).loc main_arg7)) (v0_at m c) (v2_at m c)) _).trans ?_))
  rw [h1, h6]

include hok in
/-- The projected node embeddings the first pipeline leaves. -/
theorem node_proj (k : Fin 16384) (d : Fin 64) :
    V2 m (outs2 m) c main_v3_0 (ix2 k d)
      = Cert.Spec.proj (m ((c : Thread nD τ).loc main_arg0)) (m ((c : Thread nD τ).loc main_arg4))
          (m ((c : Thread nD τ).loc main_arg5)) k d := by
  have h0 : B1 m c main_arg0 = m ((c : Thread nD τ).loc main_arg0) := V1_of m c main_arg0 (by decide)
  have h4 : B1 m c main_arg4 = m ((c : Thread nD τ).loc main_arg4) := V1_of m c main_arg4 (by decide)
  have e : V2 m (outs2 m) c main_v3_0 = (projDat (B1 m) c).arrAt 7 cfg0.N := B2_v3_0 m hok c
  refine (congrFun e _).trans ((congrFun (proj_array (B1 m) c (m ((c : Thread nD τ).loc main_arg5)) (v1_at m c)) _).trans ?_)
  rw [h0, h4]

/-- The entity memory the kernel leaves: at row `r`, the sum of the projected embeddings whose node id is `r`. -/
theorem entity_result (hids : ∀ j, (nodeIds m j).toNat < 1000000) (r : Fin 1000000) (d : Fin 64) :
    V8 m (left m hok) c main_v17 (ix2 r d)
      = Cert.Spec.rowSum (m ((c : Thread nD τ).loc main_arg2))
          (fun k => Cert.Spec.proj (m ((c : Thread nD τ).loc main_arg0)) (m ((c : Thread nD τ).loc main_arg4))
            (m ((c : Thread nD τ).loc main_arg5)) k d) r.val := by
  obtain rfl : c = 0 := Subsingleton.elim _ _
  have hsid : ∀ n : Fin 16384, sid (tabA m hok).1 n.val = Cert.Order.sorted (nodeIds m) n := sid_tab m
  have hmono : ∀ i j, i ≤ j → j < 16384 → (sid (tabA m hok).1 i).toNat ≤ (sid (tabA m hok).1 j).toNat := fun i j hij hj => by
    have h := Cert.Order.sorted_mono (nodeIds m) (fun j => (hids j).trans (by norm_num)) ⟨i, hij.trans_lt hj⟩ ⟨j, hj⟩ hij
    rw [← hsid, ← hsid] at h
    exact h
  have hr : ∀ n, n < 16384 → (sid (tabA m hok).1 n).toNat < 1000000 := fun n hn => by
    have h : (Cert.Order.sorted (nodeIds m) ⟨n, hn⟩).toNat < 1000000 := hids _
    rw [← hsid] at h
    exact h
  let p : Fin 16384 → Fin 64 → EReal := fun k d =>
    Cert.Spec.proj (m (((0 : Dev nD) : Thread nD τ).loc main_arg0)) (m (((0 : Dev nD) : Thread nD τ).loc main_arg4))
      (m (((0 : Dev nD) : Thread nD τ).loc main_arg5)) k d
  let u : ℕ → Fin 64 → EReal := fun n d => if h : n < 16384 then p (Cert.Order.ord (nodeIds m) ⟨n, h⟩) d else 0
  have hu0 : ∀ (n : Fin 16384) (d : Fin 64), u n.val d = p (Cert.Order.ord (nodeIds m) n) d := fun n d => dif_pos n.isLt
  have hu : ∀ (n : Fin 16384) (d : Fin 64), B6 m 0 main_v14 (ix3 n 0 d) = u n.val d := fun n d =>
    (v14_at m 0 n d).trans ((node_proj m 0 hok _ d).trans (hu0 n d).symm)
  have hsum : (∑ n ∈ Finset.range 16384, rowTerm (tabA m hok).1 (fun n => u n d) r.val n)
      = Cert.Spec.rowSum (nodeIds m) (fun k => p k d) r.val := by
    rw [Finset.sum_range]
    refine Eq.trans (Finset.sum_congr rfl fun n _ => ?_) (sorted_sum (nodeIds m) (fun k => p k d) r.val)
    unfold rowTerm
    rw [hsid n]
    exact if_congr Iff.rfl (hu0 n d) rfl
  exact (v17_at m 0 hok r d).trans ((congrFun (B7_v16 m hok 0) _).trans
    ((scat_array (tabA m hok) (B6 m) 0 hmono hr u hu (v16_at m 0) r d).trans hsum))

end Cert.KernelIdeal.Value

namespace Cert.Algebra

open Idealize.ShloMosaic Idealize.ShloMosaic.TcCoe Idealize.ShloMosaic.ValueIdx
open Idealize.SL.Sem
open Cert.KernelIdeal.Run Cert.KernelIdeal.Gen

/-- From equal arguments, zero memories and ids in range, the kernel and the reference leave equal memories. -/
theorem algebraic :
    Cert.algebraic_KernelIdeal_ReferenceIdeal_pre_fresh_memories (hKernelIdeal := Cert.KernelIdeal.Gen.facts)
      (hReferenceIdeal := Cert.ReferenceIdeal.Gen.facts) (hPre_fresh_memories := Cert.Pre.freshFacts) := by
  intro m g m' g' hpre hargs
  have hnode := Cert.Pre.fresh_node _ _ _ _ _ _ _ _ _ _ (hpre 0).1
  have hok := Cert.KernelIdeal.Run.ok1_of_range m hnode
  refine ⟨fun c => V8 m (left m hok) c Cert.KernelIdeal.main_v17, fun c => V8 m (left m hok) c Cert.KernelIdeal.main_v4, ?_, ?_⟩
  · exact (θ_run Cert.KernelIdeal.defs _ _).mono (fun r h c =>
      ⟨h.1 c _ (mem_uc Cert.KernelIdeal.main_v17 (by decide)),
       h.1 c _ (mem_uc Cert.KernelIdeal.main_v4 (by decide)),
       (h.1 c _ (mem_uc Cert.KernelIdeal.main_arg0 (by decide))).trans (V8_main_arg0 m (left m hok) c),
       (h.1 c _ (mem_uc Cert.KernelIdeal.main_arg1 (by decide))).trans (V8_main_arg1 m (left m hok) c),
       (h.1 c _ (mem_uc Cert.KernelIdeal.main_arg2 (by decide))).trans (V8_main_arg2 m (left m hok) c),
       (h.1 c _ (mem_uc Cert.KernelIdeal.main_arg3 (by decide))).trans (V8_main_arg3 m (left m hok) c),
       (h.1 c _ (mem_uc Cert.KernelIdeal.main_arg4 (by decide))).trans (V8_main_arg4 m (left m hok) c),
       (h.1 c _ (mem_uc Cert.KernelIdeal.main_arg5 (by decide))).trans (V8_main_arg5 m (left m hok) c),
       (h.1 c _ (mem_uc Cert.KernelIdeal.main_arg6 (by decide))).trans (V8_main_arg6 m (left m hok) c),
       (h.1 c _ (mem_uc Cert.KernelIdeal.main_arg7 (by decide))).trans (V8_main_arg7 m (left m hok) c),
       (h.1 c _ (mem_uc Cert.KernelIdeal.main_arg8 (by decide))).trans (V8_main_arg8 m (left m hok) c),
       (h.1 c _ (mem_uc Cert.KernelIdeal.main_arg9 (by decide))).trans (V8_main_arg9 m (left m hok) c)⟩)
      (Cert.KernelIdeal.Run.run m hok g)
  · refine (θ_run Cert.ReferenceIdeal.defs _ _).mono (fun r h c => ⟨?_, ?_, (h c).2⟩) (Cert.ReferenceIdeal.Value.run m' g')
    · obtain ⟨e0, e1, e2, e3, e4, e5, e6, e7, e8, e9⟩ := hargs c
      refine (h c).1.1.trans ?_
      rw [e0, e2, e4, e5, e8]
      funext i
      obtain ⟨r, d, rfl⟩ : ∃ (r : Fin 1000000) (d : Fin 64), i = ix2 r d := ⟨i 0, i 1, eq_ix2 i⟩
      refine (Cert.ReferenceIdeal.Value.entity_at _ _ _ _ _ (Cert.Pre.fresh_entity _ _ _ _ _ _ _ _ _ _ (hpre c).2.2.1)
        (fun j => (Cert.Pre.fresh_node _ _ _ _ _ _ _ _ _ _ (hpre c).1 j).trans (by norm_num)) r d).trans ?_
      exact (Cert.KernelIdeal.Value.entity_result m c hok hnode r d).symm
    · obtain ⟨e0, e1, e2, e3, e4, e5, e6, e7, e8, e9⟩ := hargs c
      refine (h c).1.2.trans ?_
      rw [e1, e3, e6, e7, e9]
      funext i
      obtain ⟨r, d, rfl⟩ : ∃ (r : Fin 1000) (d : Fin 64), i = ix2 r d := ⟨i 0, i 1, eq_ix2 i⟩
      refine (Cert.ReferenceIdeal.Value.relation_at _ _ _ _ _ (Cert.Pre.fresh_relation _ _ _ _ _ _ _ _ _ _ (hpre c).2.2.2)
        (fun j => (Cert.Pre.fresh_rel _ _ _ _ _ _ _ _ _ _ (hpre c).2.1 j).trans (by norm_num)) r d).trans ?_
      exact (Cert.KernelIdeal.Value.relation_result m c hok r d).symm

end Cert.Algebra

end
-- ==== Proof.lean ====
/-
  The certificate: the programs' stated facts, the three frames, and the equality of the kernel's and the reference's results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pre
public import proofs.«01_k».proof.Proof.Frames
public import proofs.«01_k».proof.Proof.Algebra

@[expose] public section

noncomputable section

namespace Cert.Proof

/-- Everything that is claimed: each program's runs end with unchanged arguments and counters at zero, and from zero
    memories and ids in range the idealized kernel and the idealized reference leave equal memories. -/
theorem claim : Cert.Claim :=
  ⟨Cert.Kernel.Gen.facts, Cert.KernelIdeal.Gen.facts, Cert.ReferenceIdeal.Gen.facts, Cert.Pre.idsFacts, Cert.Pre.freshFacts,
    Cert.Frames.kernel, Cert.Frames.kernelIdeal, Cert.Frames.kernelIdeal_fresh, Cert.Frames.reference,
    Cert.Frames.reference_fresh, trivial, Cert.Algebra.algebraic⟩

end Cert.Proof

end
